-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024x512 : Shape := ⟨3, ![16, 1024, 512]⟩
abbrev S512x32 : Shape := ⟨2, ![512, 32]⟩
abbrev S8192x32 : Shape := ⟨2, ![8192, 32]⟩
abbrev S16384x512 : Shape := ⟨2, ![16384, 512]⟩
abbrev S32x8192 : Shape := ⟨2, ![32, 8192]⟩
abbrev S8192 : Shape := ⟨1, ![8192]⟩
abbrev S1x8192 : Shape := ⟨2, ![1, 8192]⟩
abbrev S16x1x1024 : Shape := ⟨3, ![16, 1, 1024]⟩
abbrev S16384 : Shape := ⟨1, ![16384]⟩
abbrev S1024x512 : Shape := ⟨2, ![1024, 512]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩
abbrev S512x8192 : Shape := ⟨2, ![512, 8192]⟩
abbrev S1x1x512 : Shape := ⟨3, ![1, 1, 512]⟩
abbrev S16x1024 : Shape := ⟨2, ![16, 1024]⟩

abbrev nBuf : Space → Nat
  | .hbm => 10
  | .vmem => 9
  | .smem => 0
  | _ => 0

abbrev bufTy : (tb : Table) → Fin (tcTables nBuf tb) → BufTy
  | .hbm, ⟨0, _⟩ => ⟨S16x1024x512, .f32⟩
  | .hbm, ⟨1, _⟩ => ⟨S512x32, .f32⟩
  | .hbm, ⟨2, _⟩ => ⟨S8192x32, .f32⟩
  | .hbm, ⟨3, _⟩ => ⟨S16384x512, .f32⟩
  | .hbm, ⟨4, _⟩ => ⟨S32x8192, .f32⟩
  | .hbm, ⟨5, _⟩ => ⟨S8192, .f32⟩
  | .hbm, ⟨6, _⟩ => ⟨S1x8192, .f32⟩
  | .hbm, ⟨7, _⟩ => ⟨S16x1x1024, .i32⟩
  | .hbm, ⟨8, _⟩ => ⟨S16384, .i32⟩
  | .hbm, ⟨9, _⟩ => ⟨S16x1024, .i32⟩
  | .local _ .vmem, ⟨0, _⟩ => ⟨S1024x512, .f32⟩
  | .local _ .vmem, ⟨1, _⟩ => ⟨S1024x512, .f32⟩
  | .local _ .vmem, ⟨2, _⟩ => ⟨S512x32, .f32⟩
  | .local _ .vmem, ⟨3, _⟩ => ⟨S32x8192, .f32⟩
  | .local _ .vmem, ⟨4, _⟩ => ⟨S1x8192, .f32⟩
  | .local _ .vmem, ⟨5, _⟩ => ⟨S1x1x1024, .i32⟩
  | .local _ .vmem, ⟨6, _⟩ => ⟨S1x1x1024, .i32⟩
  | .local _ .vmem, ⟨7, _⟩ => ⟨S32x8192, .f32⟩
  | .local _ .vmem, ⟨8, _⟩ => ⟨S1x8192, .f32⟩
  | _, _ => ⟨S16x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x1024x512 : Shape := ⟨3, ![16, 1024, 512]⟩
abbrev S512x32 : Shape := ⟨2, ![512, 32]⟩
abbrev S8192x32 : Shape := ⟨2, ![8192, 32]⟩
abbrev S16x1024x32 : Shape := ⟨3, ![16, 1024, 32]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S8192 : Shape := ⟨1, ![8192]⟩
abbrev S8192x1 : Shape := ⟨2, ![8192, 1]⟩
abbrev S1x16384 : Shape := ⟨2, ![1, 16384]⟩
abbrev S32x16384 : Shape := ⟨2, ![32, 16384]⟩
abbrev S8192x16384 : Shape := ⟨2, ![8192, 16384]⟩
abbrev S16x1024 : Shape := ⟨2, ![16, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16x1024x512, .f32⟩
  | .hbm, ⟨1, _⟩ => ⟨S512x32, .f32⟩
  | .hbm, ⟨2, _⟩ => ⟨S8192x32, .f32⟩
  | .hbm, ⟨3, _⟩ => ⟨S16x1024x32, .f32⟩
  | .hbm, ⟨4, _⟩ => ⟨S16384x32, .f32⟩
  | .hbm, ⟨5, _⟩ => ⟨S16384x32, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x32, .f32⟩
  | .hbm, ⟨14, _⟩ => ⟨S16384x32, .f32⟩
  | .hbm, ⟨15, _⟩ => ⟨S8192x32, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S16384x32, .f32⟩
  | .hbm, ⟨30, _⟩ => ⟨S_, .f32⟩
  | .hbm, ⟨31, _⟩ => ⟨S16384, .f32⟩
  | .hbm, ⟨32, _⟩ => ⟨S1x16384, .f32⟩
  | .hbm, ⟨33, _⟩ => ⟨S32x16384, .f32⟩
  | .hbm, ⟨34, _⟩ => ⟨S8192x16384, .f32⟩
  | .hbm, ⟨35, _⟩ => ⟨S8192x16384, .f32⟩
  | .hbm, ⟨36, _⟩ => ⟨S8192x16384, .f32⟩
  | .hbm, ⟨37, _⟩ => ⟨S8192x16384, .f32⟩
  | .hbm, ⟨38, _⟩ => ⟨S_, .f32⟩
  | .hbm, ⟨39, _⟩ => ⟨S8192x16384, .f32⟩
  | .hbm, ⟨40, _⟩ => ⟨S8192x16384, .f32⟩
  | .hbm, ⟨41, _⟩ => ⟨S8192x16384, .f32⟩
  | .hbm, ⟨42, _⟩ => ⟨S_, .f32⟩
  | .hbm, ⟨43, _⟩ => ⟨S8192x16384, .f32⟩
  | .hbm, ⟨44, _⟩ => ⟨S8192x16384, .f32⟩
  | .hbm, ⟨45, _⟩ => ⟨S8192x16384, .f32⟩
  | .hbm, ⟨46, _⟩ => ⟨S8192x16384, .i32⟩
  | .hbm, ⟨47, _⟩ => ⟨S_, .f32⟩
  | .hbm, ⟨48, _⟩ => ⟨S_, .i32⟩
  | .hbm, ⟨49, _⟩ => ⟨S16384, .f32⟩
  | .hbm, ⟨50, _⟩ => ⟨S16384, .i32⟩
  | .hbm, ⟨51, _⟩ => ⟨S16x1024, .i32⟩
  | _, _ => ⟨S16x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_cst : Ref sig .tc := ⟨.hbm, 47, rfl⟩
abbrev main_call0_c : Ref sig .tc := ⟨.hbm, 48, rfl⟩
abbrev main_call0_v1_0 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Proof.RefRun.lean ====
/- The reference program's run: its operations as one list, and what the list leaves at its result, as one function of
   the three argument arrays. -/
module

public import proofs.«01_k».proof.Defs
public import proofs.«01_k».proof.Proof.Gen.ReferenceIdeal
public import Idealize.ShloMosaic.Lib.Claim
public import Idealize.ShloMosaic.Lib.Quiescent

@[expose] public section

set_option maxRecDepth 16384

noncomputable section

namespace Cert.ReferenceIdeal.Value

open Idealize.ShloMosaic Idealize.ShloMosaic.TcCoe Idealize.SL.Sem Idealize.ShloMosaic.StableHlo
open Cert.ReferenceIdeal Cert.ReferenceIdeal.Gen

/-- The projected rows: every row of the input times the projection matrix, as a `16384 × 32` array. -/
def PROJ (X : FVec Ideal S16x1024x512 .f32) (R : FVec Ideal S512x32 .f32) : FVec Ideal S16384x32 .f32 :=
  shapeCast S16384x32 (Host.dotGeneral dot_S16x1024x512_S512x32_S16x1024x32_2_0_01_1_n_n none X R) Gen.shapeCasts_S16x1024x32_S16384x32

/-- The rows of a `16384 × 32` array, each divided by the larger of its length and the small constant. -/
def NX (v1 : FVec Ideal S16384x32 .f32) : FVec Ideal S16384x32 .f32 :=
  Host.divf v1 (broadcastInDim S16384x32 ![0, 1] Gen.bcast_S16384x1_S16384x32_0_1
    (maximumf (Host.sqrt (broadcastInDim S16384x1 ![0] Gen.bcast_S16384_S16384x1_0
        (Host.reduceAdd (mulf v1 v1) (constant S_ .f32 0x00000000#32) Gen.reducesTo_S16384x32_S16384_d1 Gen.h_S_)))
      (broadcastInDim S16384x1 ![] Gen.bcast_S_S16384x1 (constant S_ .f32 0x2B8CBCCC#32))))

/-- The rows of the codebook, each divided by the larger of its length and the small constant. -/
def NC (v1 : FVec Ideal S8192x32 .f32) : FVec Ideal S8192x32 .f32 :=
  Host.divf v1 (broadcastInDim S8192x32 ![0, 1] Gen.bcast_S8192x1_S8192x32_0_1
    (maximumf (Host.sqrt (broadcastInDim S8192x1 ![0] Gen.bcast_S8192_S8192x1_0
        (Host.reduceAdd (mulf v1 v1) (constant S_ .f32 0x00000000#32) Gen.reducesTo_S8192x32_S8192_d1 Gen.h_S_)))
      (broadcastInDim S8192x1 ![] Gen.bcast_S_S8192x1 (constant S_ .f32 0x2B8CBCCC#32))))

/-- The distances between every code and every projected row. -/
def DIST (p : FVec Ideal S16384x32 .f32) (q : FVec Ideal S8192x32 .f32) : FVec Ideal S8192x16384 .f32 :=
  Host.sqrt (maximumf
    (subf
      (addf
        (broadcastInDim S8192x16384 ![0, 1] Gen.bcast_S8192x1_S8192x16384_0_1
          (broadcastInDim S8192x1 ![0] Gen.bcast_S8192_S8192x1_0
            (Host.reduceAdd (mulf q q) (constant S_ .f32 0x00000000#32) Gen.reducesTo_S8192x32_S8192_d1 Gen.h_S_)))
        (broadcastInDim S8192x16384 ![0, 1] Gen.bcast_S1x16384_S8192x16384_0_1
          (broadcastInDim S1x16384 ![1] Gen.bcast_S16384_S1x16384_1
            (Host.reduceAdd (mulf p p) (constant S_ .f32 0x00000000#32) Gen.reducesTo_S16384x32_S16384_d1 Gen.h_S_))))
      (mulf (broadcastInDim S8192x16384 ![] Gen.bcast_S_S8192x16384 (constant S_ .f32 0x40000000#32))
        (Host.dotGeneral dot_S8192x32_S32x16384_S8192x16384_1_0_0_1_n_n none q
          (transpose S32x16384 [1, 0] p Gen.transposes_S16384x32_S32x16384_1_0))))
    (broadcastInDim S8192x16384 ![] Gen.bcast_S_S8192x16384 (constant S_ .f32 0x00000000#32)))

/-- The index of the nearest code of every row, from the distances. -/
def ARG (d : FVec Ideal S8192x16384 .f32) : IVec S16384 32 := fun j =>
  (Host.argReduce (reducer_argmin_f32_i32 (F := Ideal)) d (iotaInDim S8192x16384 32 0) (constant S_ .f32 0x7F800000#32) (constantI S_ 32 0#32)
    Gen.reducesTo_S8192x16384_S16384_d0 Gen.h_S_ j).2

/-- What the reference returns, as a function of its arguments. -/
def REF (X : FVec Ideal S16x1024x512 .f32) (R : FVec Ideal S512x32 .f32) (C : FVec Ideal S8192x32 .f32) : IVec S16x1024 32 :=
  shapeCast S16x1024 (ARG (DIST (NX (PROJ X R)) (NC C))) Gen.shapeCasts_S16384_S16x1024

/-- The reference's operations in order, the call's among them. -/
def ops {F : FTy → Type} [FloatOps F] : List (HloOp τ sig (Elt F)) :=
  [ binary main_arg0 main_arg1 main_v0 ((fun l r => Host.dotGeneral dot_S16x1024x512_S512x32_S16x1024x32_2_0_01_1_n_n none l r) : (⟨S16x1024x512, .f32⟩ : BufTy).Contents (Elt F) → (⟨S512x32, .f32⟩ : BufTy).Contents (Elt F) → (⟨S16x1024x32, .f32⟩ : BufTy).Contents (Elt F)),
    reshape main_v0 main_v1 (rfl : (.f32 : EltTy) = .f32) shapeCasts_S16x1024x32_S16384x32,
    binary main_v1 main_v1 main_v2 (mulf : (⟨S16384x32, .f32⟩ : BufTy).Contents (Elt F) → (⟨S16384x32, .f32⟩ : BufTy).Contents (Elt F) → (⟨S16384x32, .f32⟩ : BufTy).Contents (Elt F)),
    nullary main_cst (constant S_ .f32 0x00000000#32),
    binary main_v2 main_cst main_v3 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    unary main_v3 main_v4 (broadcastInDim S16384x1 ![0] bcast_S16384_S16384x1_0 : (⟨S16384, .f32⟩ : BufTy).Contents (Elt F) → (⟨S16384x1, .f32⟩ : BufTy).Contents (Elt F)),
    unary main_v4 main_v5 (Host.sqrt : (⟨S16384x1, .f32⟩ : BufTy).Contents (Elt F) → (⟨S16384x1, .f32⟩ : BufTy).Contents (Elt F)),
    nullary main_cst_0 (constant S_ .f32 0x2B8CBCCC#32),
    unary main_cst_0 main_v6 (broadcastInDim S16384x1 ![] bcast_S_S16384x1 : (⟨S_, .f32⟩ : BufTy).Contents (Elt F) → (⟨S16384x1, .f32⟩ : BufTy).Contents (Elt F)),
    binary main_v5 main_v6 main_v7 (maximumf : (⟨S16384x1, .f32⟩ : BufTy).Contents (Elt F) → (⟨S16384x1, .f32⟩ : BufTy).Contents (Elt F) → (⟨S16384x1, .f32⟩ : BufTy).Contents (Elt F)),
    unary main_v7 main_v8 (broadcastInDim S16384x32 ![0, 1] bcast_S16384x1_S16384x32_0_1 : (⟨S16384x1, .f32⟩ : BufTy).Contents (Elt F) → (⟨S16384x32, .f32⟩ : BufTy).Contents (Elt F)),
    binary main_v1 main_v8 main_v9 (Host.divf : (⟨S16384x32, .f32⟩ : BufTy).Contents (Elt F) → (⟨S16384x32, .f32⟩ : BufTy).Contents (Elt F) → (⟨S16384x32, .f32⟩ : BufTy).Contents (Elt F)),
    binary main_arg2 main_arg2 main_v10 (mulf : (⟨S8192x32, .f32⟩ : BufTy).Contents (Elt F) → (⟨S8192x32, .f32⟩ : BufTy).Contents (Elt F) → (⟨S8192x32, .f32⟩ : BufTy).Contents (Elt F)),
    nullary main_cst_1 (constant S_ .f32 0x00000000#32),
    binary main_v10 main_cst_1 main_v11 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v11 main_v12 (broadcastInDim S8192x1 ![0] bcast_S8192_S8192x1_0 : (⟨S8192, .f32⟩ : BufTy).Contents (Elt F) → (⟨S8192x1, .f32⟩ : BufTy).Contents (Elt F)),
    unary main_v12 main_v13 (Host.sqrt : (⟨S8192x1, .f32⟩ : BufTy).Contents (Elt F) → (⟨S8192x1, .f32⟩ : BufTy).Contents (Elt F)),
    nullary main_cst_2 (constant S_ .f32 0x2B8CBCCC#32),
    unary main_cst_2 main_v14 (broadcastInDim S8192x1 ![] bcast_S_S8192x1 : (⟨S_, .f32⟩ : BufTy).Contents (Elt F) → (⟨S8192x1, .f32⟩ : BufTy).Contents (Elt F)),
    binary main_v13 main_v14 main_v15 (maximumf : (⟨S8192x1, .f32⟩ : BufTy).Contents (Elt F) → (⟨S8192x1, .f32⟩ : BufTy).Contents (Elt F) → (⟨S8192x1, .f32⟩ : BufTy).Contents (Elt F)),
    unary main_v15 main_v16 (broadcastInDim S8192x32 ![0, 1] bcast_S8192x1_S8192x32_0_1 : (⟨S8192x1, .f32⟩ : BufTy).Contents (Elt F) → (⟨S8192x32, .f32⟩ : BufTy).Contents (Elt F)),
    binary main_arg2 main_v16 main_v17 (Host.divf : (⟨S8192x32, .f32⟩ : BufTy).Contents (Elt F) → (⟨S8192x32, .f32⟩ : BufTy).Contents (Elt F) → (⟨S8192x32, .f32⟩ : BufTy).Contents (Elt F)),
    binary main_v17 main_v17 main_v18 (mulf : (⟨S8192x32, .f32⟩ : BufTy).Contents (Elt F) → (⟨S8192x32, .f32⟩ : BufTy).Contents (Elt F) → (⟨S8192x32, .f32⟩ : BufTy).Contents (Elt F)),
    nullary main_cst_3 (constant S_ .f32 0x00000000#32),
    binary main_v18 main_cst_3 main_v19 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v19 main_v20 (broadcastInDim S8192x1 ![0] bcast_S8192_S8192x1_0 : (⟨S8192, .f32⟩ : BufTy).Contents (Elt F) → (⟨S8192x1, .f32⟩ : BufTy).Contents (Elt F)),
    binary main_v9 main_v9 main_v21 (mulf : (⟨S16384x32, .f32⟩ : BufTy).Contents (Elt F) → (⟨S16384x32, .f32⟩ : BufTy).Contents (Elt F) → (⟨S16384x32, .f32⟩ : BufTy).Contents (Elt F)),
    nullary main_cst_4 (constant S_ .f32 0x00000000#32),
    binary main_v21 main_cst_4 main_v22 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    unary main_v22 main_v23 (broadcastInDim S1x16384 ![1] bcast_S16384_S1x16384_1 : (⟨S16384, .f32⟩ : BufTy).Contents (Elt F) → (⟨S1x16384, .f32⟩ : BufTy).Contents (Elt F)),
    unary main_v9 main_v24 ((transpose S32x16384 [1, 0] · transposes_S16384x32_S32x16384_1_0) : (⟨S16384x32, .f32⟩ : BufTy).Contents (Elt F) → (⟨S32x16384, .f32⟩ : BufTy).Contents (Elt F)),
    binary main_v17 main_v24 main_v25 ((fun l r => Host.dotGeneral dot_S8192x32_S32x16384_S8192x16384_1_0_0_1_n_n none l r) : (⟨S8192x32, .f32⟩ : BufTy).Contents (Elt F) → (⟨S32x16384, .f32⟩ : BufTy).Contents (Elt F) → (⟨S8192x16384, .f32⟩ : BufTy).Contents (Elt F)),
    unary main_v20 main_v26 (broadcastInDim S8192x16384 ![0, 1] bcast_S8192x1_S8192x16384_0_1 : (⟨S8192x1, .f32⟩ : BufTy).Contents (Elt F) → (⟨S8192x16384, .f32⟩ : BufTy).Contents (Elt F)),
    unary main_v23 main_v27 (broadcastInDim S8192x16384 ![0, 1] bcast_S1x16384_S8192x16384_0_1 : (⟨S1x16384, .f32⟩ : BufTy).Contents (Elt F) → (⟨S8192x16384, .f32⟩ : BufTy).Contents (Elt F)),
    binary main_v26 main_v27 main_v28 (addf : (⟨S8192x16384, .f32⟩ : BufTy).Contents (Elt F) → (⟨S8192x16384, .f32⟩ : BufTy).Contents (Elt F) → (⟨S8192x16384, .f32⟩ : BufTy).Contents (Elt F)),
    nullary main_cst_5 (constant S_ .f32 0x40000000#32),
    unary main_cst_5 main_v29 (broadcastInDim S8192x16384 ![] bcast_S_S8192x16384 : (⟨S_, .f32⟩ : BufTy).Contents (Elt F) → (⟨S8192x16384, .f32⟩ : BufTy).Contents (Elt F)),
    binary main_v29 main_v25 main_v30 (mulf : (⟨S8192x16384, .f32⟩ : BufTy).Contents (Elt F) → (⟨S8192x16384, .f32⟩ : BufTy).Contents (Elt F) → (⟨S8192x16384, .f32⟩ : BufTy).Contents (Elt F)),
    binary main_v28 main_v30 main_v31 (subf : (⟨S8192x16384, .f32⟩ : BufTy).Contents (Elt F) → (⟨S8192x16384, .f32⟩ : BufTy).Contents (Elt F) → (⟨S8192x16384, .f32⟩ : BufTy).Contents (Elt F)),
    nullary main_cst_6 (constant S_ .f32 0x00000000#32),
    unary main_cst_6 main_v32 (broadcastInDim S8192x16384 ![] bcast_S_S8192x16384 : (⟨S_, .f32⟩ : BufTy).Contents (Elt F) → (⟨S8192x16384, .f32⟩ : BufTy).Contents (Elt F)),
    binary main_v31 main_v32 main_v33 (maximumf : (⟨S8192x16384, .f32⟩ : BufTy).Contents (Elt F) → (⟨S8192x16384, .f32⟩ : BufTy).Contents (Elt F) → (⟨S8192x16384, .f32⟩ : BufTy).Contents (Elt F)),
    unary main_v33 main_v34 (Host.sqrt : (⟨S8192x16384, .f32⟩ : BufTy).Contents (Elt F) → (⟨S8192x16384, .f32⟩ : BufTy).Contents (Elt F)),
    TRef.nullary main_call0.v0 (iotaInDim S8192x16384 32 0),
    TRef.nullary main_call0.cst (constant S_ .f32 0x7F800000#32),
    TRef.nullary main_call0.c (constantI S_ 32 0#32),
    TRef.quaternary (.of main_v34) main_call0.v0 main_call0.cst main_call0.c main_call0.v1_0 (fun x y u v j => (Host.argReduce reducer_argmin_f32_i32 x y u v reducesTo_S8192x16384_S16384_d0 h_S_ j).1),
    TRef.quaternary (.of main_v34) main_call0.v0 main_call0.cst main_call0.c main_call0.v1_1 (fun x y u v j => (Host.argReduce reducer_argmin_f32_i32 x y u v reducesTo_S8192x16384_S16384_d0 h_S_ j).2),
    reshape main_v35 main_v36 (rfl : (.i32 : EltTy) = .i32) shapeCasts_S16384_S16x1024 ]

/-- The operations up to the distances. -/
def opsD {F : FTy → Type} [FloatOps F] : List (HloOp τ sig (Elt F)) :=
  [ binary main_arg0 main_arg1 main_v0 ((fun l r => Host.dotGeneral dot_S16x1024x512_S512x32_S16x1024x32_2_0_01_1_n_n none l r) : (⟨S16x1024x512, .f32⟩ : BufTy).Contents (Elt F) → (⟨S512x32, .f32⟩ : BufTy).Contents (Elt F) → (⟨S16x1024x32, .f32⟩ : BufTy).Contents (Elt F)),
    reshape main_v0 main_v1 (rfl : (.f32 : EltTy) = .f32) shapeCasts_S16x1024x32_S16384x32,
    binary main_v1 main_v1 main_v2 (mulf : (⟨S16384x32, .f32⟩ : BufTy).Contents (Elt F) → (⟨S16384x32, .f32⟩ : BufTy).Contents (Elt F) → (⟨S16384x32, .f32⟩ : BufTy).Contents (Elt F)),
    nullary main_cst (constant S_ .f32 0x00000000#32),
    binary main_v2 main_cst main_v3 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    unary main_v3 main_v4 (broadcastInDim S16384x1 ![0] bcast_S16384_S16384x1_0 : (⟨S16384, .f32⟩ : BufTy).Contents (Elt F) → (⟨S16384x1, .f32⟩ : BufTy).Contents (Elt F)),
    unary main_v4 main_v5 (Host.sqrt : (⟨S16384x1, .f32⟩ : BufTy).Contents (Elt F) → (⟨S16384x1, .f32⟩ : BufTy).Contents (Elt F)),
    nullary main_cst_0 (constant S_ .f32 0x2B8CBCCC#32),
    unary main_cst_0 main_v6 (broadcastInDim S16384x1 ![] bcast_S_S16384x1 : (⟨S_, .f32⟩ : BufTy).Contents (Elt F) → (⟨S16384x1, .f32⟩ : BufTy).Contents (Elt F)),
    binary main_v5 main_v6 main_v7 (maximumf : (⟨S16384x1, .f32⟩ : BufTy).Contents (Elt F) → (⟨S16384x1, .f32⟩ : BufTy).Contents (Elt F) → (⟨S16384x1, .f32⟩ : BufTy).Contents (Elt F)),
    unary main_v7 main_v8 (broadcastInDim S16384x32 ![0, 1] bcast_S16384x1_S16384x32_0_1 : (⟨S16384x1, .f32⟩ : BufTy).Contents (Elt F) → (⟨S16384x32, .f32⟩ : BufTy).Contents (Elt F)),
    binary main_v1 main_v8 main_v9 (Host.divf : (⟨S16384x32, .f32⟩ : BufTy).Contents (Elt F) → (⟨S16384x32, .f32⟩ : BufTy).Contents (Elt F) → (⟨S16384x32, .f32⟩ : BufTy).Contents (Elt F)),
    binary main_arg2 main_arg2 main_v10 (mulf : (⟨S8192x32, .f32⟩ : BufTy).Contents (Elt F) → (⟨S8192x32, .f32⟩ : BufTy).Contents (Elt F) → (⟨S8192x32, .f32⟩ : BufTy).Contents (Elt F)),
    nullary main_cst_1 (constant S_ .f32 0x00000000#32),
    binary main_v10 main_cst_1 main_v11 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v11 main_v12 (broadcastInDim S8192x1 ![0] bcast_S8192_S8192x1_0 : (⟨S8192, .f32⟩ : BufTy).Contents (Elt F) → (⟨S8192x1, .f32⟩ : BufTy).Contents (Elt F)),
    unary main_v12 main_v13 (Host.sqrt : (⟨S8192x1, .f32⟩ : BufTy).Contents (Elt F) → (⟨S8192x1, .f32⟩ : BufTy).Contents (Elt F)),
    nullary main_cst_2 (constant S_ .f32 0x2B8CBCCC#32),
    unary main_cst_2 main_v14 (broadcastInDim S8192x1 ![] bcast_S_S8192x1 : (⟨S_, .f32⟩ : BufTy).Contents (Elt F) → (⟨S8192x1, .f32⟩ : BufTy).Contents (Elt F)),
    binary main_v13 main_v14 main_v15 (maximumf : (⟨S8192x1, .f32⟩ : BufTy).Contents (Elt F) → (⟨S8192x1, .f32⟩ : BufTy).Contents (Elt F) → (⟨S8192x1, .f32⟩ : BufTy).Contents (Elt F)),
    unary main_v15 main_v16 (broadcastInDim S8192x32 ![0, 1] bcast_S8192x1_S8192x32_0_1 : (⟨S8192x1, .f32⟩ : BufTy).Contents (Elt F) → (⟨S8192x32, .f32⟩ : BufTy).Contents (Elt F)),
    binary main_arg2 main_v16 main_v17 (Host.divf : (⟨S8192x32, .f32⟩ : BufTy).Contents (Elt F) → (⟨S8192x32, .f32⟩ : BufTy).Contents (Elt F) → (⟨S8192x32, .f32⟩ : BufTy).Contents (Elt F)),
    binary main_v17 main_v17 main_v18 (mulf : (⟨S8192x32, .f32⟩ : BufTy).Contents (Elt F) → (⟨S8192x32, .f32⟩ : BufTy).Contents (Elt F) → (⟨S8192x32, .f32⟩ : BufTy).Contents (Elt F)),
    nullary main_cst_3 (constant S_ .f32 0x00000000#32),
    binary main_v18 main_cst_3 main_v19 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v19 main_v20 (broadcastInDim S8192x1 ![0] bcast_S8192_S8192x1_0 : (⟨S8192, .f32⟩ : BufTy).Contents (Elt F) → (⟨S8192x1, .f32⟩ : BufTy).Contents (Elt F)),
    binary main_v9 main_v9 main_v21 (mulf : (⟨S16384x32, .f32⟩ : BufTy).Contents (Elt F) → (⟨S16384x32, .f32⟩ : BufTy).Contents (Elt F) → (⟨S16384x32, .f32⟩ : BufTy).Contents (Elt F)),
    nullary main_cst_4 (constant S_ .f32 0x00000000#32),
    binary main_v21 main_cst_4 main_v22 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    unary main_v22 main_v23 (broadcastInDim S1x16384 ![1] bcast_S16384_S1x16384_1 : (⟨S16384, .f32⟩ : BufTy).Contents (Elt F) → (⟨S1x16384, .f32⟩ : BufTy).Contents (Elt F)),
    unary main_v9 main_v24 ((transpose S32x16384 [1, 0] · transposes_S16384x32_S32x16384_1_0) : (⟨S16384x32, .f32⟩ : BufTy).Contents (Elt F) → (⟨S32x16384, .f32⟩ : BufTy).Contents (Elt F)),
    binary main_v17 main_v24 main_v25 ((fun l r => Host.dotGeneral dot_S8192x32_S32x16384_S8192x16384_1_0_0_1_n_n none l r) : (⟨S8192x32, .f32⟩ : BufTy).Contents (Elt F) → (⟨S32x16384, .f32⟩ : BufTy).Contents (Elt F) → (⟨S8192x16384, .f32⟩ : BufTy).Contents (Elt F)),
    unary main_v20 main_v26 (broadcastInDim S8192x16384 ![0, 1] bcast_S8192x1_S8192x16384_0_1 : (⟨S8192x1, .f32⟩ : BufTy).Contents (Elt F) → (⟨S8192x16384, .f32⟩ : BufTy).Contents (Elt F)),
    unary main_v23 main_v27 (broadcastInDim S8192x16384 ![0, 1] bcast_S1x16384_S8192x16384_0_1 : (⟨S1x16384, .f32⟩ : BufTy).Contents (Elt F) → (⟨S8192x16384, .f32⟩ : BufTy).Contents (Elt F)),
    binary main_v26 main_v27 main_v28 (addf : (⟨S8192x16384, .f32⟩ : BufTy).Contents (Elt F) → (⟨S8192x16384, .f32⟩ : BufTy).Contents (Elt F) → (⟨S8192x16384, .f32⟩ : BufTy).Contents (Elt F)),
    nullary main_cst_5 (constant S_ .f32 0x40000000#32),
    unary main_cst_5 main_v29 (broadcastInDim S8192x16384 ![] bcast_S_S8192x16384 : (⟨S_, .f32⟩ : BufTy).Contents (Elt F) → (⟨S8192x16384, .f32⟩ : BufTy).Contents (Elt F)),
    binary main_v29 main_v25 main_v30 (mulf : (⟨S8192x16384, .f32⟩ : BufTy).Contents (Elt F) → (⟨S8192x16384, .f32⟩ : BufTy).Contents (Elt F) → (⟨S8192x16384, .f32⟩ : BufTy).Contents (Elt F)),
    binary main_v28 main_v30 main_v31 (subf : (⟨S8192x16384, .f32⟩ : BufTy).Contents (Elt F) → (⟨S8192x16384, .f32⟩ : BufTy).Contents (Elt F) → (⟨S8192x16384, .f32⟩ : BufTy).Contents (Elt F)),
    nullary main_cst_6 (constant S_ .f32 0x00000000#32),
    unary main_cst_6 main_v32 (broadcastInDim S8192x16384 ![] bcast_S_S8192x16384 : (⟨S_, .f32⟩ : BufTy).Contents (Elt F) → (⟨S8192x16384, .f32⟩ : BufTy).Contents (Elt F)),
    binary main_v31 main_v32 main_v33 (maximumf : (⟨S8192x16384, .f32⟩ : BufTy).Contents (Elt F) → (⟨S8192x16384, .f32⟩ : BufTy).Contents (Elt F) → (⟨S8192x16384, .f32⟩ : BufTy).Contents (Elt F)),
    unary main_v33 main_v34 (Host.sqrt : (⟨S8192x16384, .f32⟩ : BufTy).Contents (Elt F) → (⟨S8192x16384, .f32⟩ : BufTy).Contents (Elt F)) ]

/-- The operations from the distances on. -/
def opsT {F : FTy → Type} [FloatOps F] : List (HloOp τ sig (Elt F)) :=
  [ TRef.nullary main_call0.v0 (iotaInDim S8192x16384 32 0),
    TRef.nullary main_call0.cst (constant S_ .f32 0x7F800000#32),
    TRef.nullary main_call0.c (constantI S_ 32 0#32),
    TRef.quaternary (.of main_v34) main_call0.v0 main_call0.cst main_call0.c main_call0.v1_0 (fun x y u v j => (Host.argReduce reducer_argmin_f32_i32 x y u v reducesTo_S8192x16384_S16384_d0 h_S_ j).1),
    TRef.quaternary (.of main_v34) main_call0.v0 main_call0.cst main_call0.c main_call0.v1_1 (fun x y u v j => (Host.argReduce reducer_argmin_f32_i32 x y u v reducesTo_S8192x16384_S16384_d0 h_S_ j).2),
    reshape main_v35 main_v36 (rfl : (.i32 : EltTy) = .i32) shapeCasts_S16384_S16x1024 ]

/-- The reference's body is that line of operations. -/
theorem main_eq (c : Dev nD) : main (F := Ideal) c = seq (ops (F := Ideal)) := by
  unfold ops
  simp only [main, fn_argmin.body, seq, bind_assoc, pure_bind]

/-- Each operation touches buffers of the TensorCore only. -/
theorem ops_sub : (ops (F := Ideal)).Forall fun op => op.bufs ⊆ tcRefs τ sig := by
  unfold ops
  exact ⟨binary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., binary_bufs_sub .., nullary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., nullary_bufs_sub .., nullary_bufs_sub .., quaternary_bufs_sub .., quaternary_bufs_sub .., reshape_bufs_sub ..⟩

/-- No operation of the list makes a new buffer. -/
theorem ops_fresh : ∀ op ∈ ops (F := Ideal), op.fresh = ∅ := by
  unfold ops
  intro _ h; (repeat (cases h with | head => rfl | tail _ h => ?_)); exact nomatch h

/-- The line is the distances' part followed by the rest. -/
theorem ops_split (V : Valuation τ sig (Elt Ideal)) : after (ops (F := Ideal)) V = after opsT (after opsD V) := by
  unfold ops opsT opsD
  simp only [after_cons, after_nil]

/-- The distances' buffer after the first part. -/
theorem dist_eq (V : Valuation τ sig (Elt Ideal)) :
    after opsD V (main_v34 : DevRef τ sig)
      = DIST (NX (PROJ (V (main_arg0 : DevRef τ sig)) (V (main_arg1 : DevRef τ sig)))) (NC (V (main_arg2 : DevRef τ sig))) := by
  unfold opsD DIST NX NC PROJ
  after_results_simp
  rfl

/-- The result's buffer after the second part. -/
theorem tail_eq (V : Valuation τ sig (Elt Ideal)) :
    after opsT V (main_v36 : DevRef τ sig)
      = shapeCast S16x1024 (ARG (V (main_v34 : DevRef τ sig))) Gen.shapeCasts_S16384_S16x1024 := by
  unfold opsT
  after_results_simp
  simp only [TRef.toBuf, TRef.ofBuf, cast_cast, cast_eq]
  have h : ∀ d : FVec Ideal S8192x16384 .f32, ARG d = fun j => (Host.argReduce (reducer_argmin_f32_i32 (F := Ideal)) d (iotaInDim S8192x16384 32 0)
    (constant S_ .f32 0x7F800000#32) (constantI S_ 32 0#32) Gen.reducesTo_S8192x16384_S16384_d0 Gen.h_S_ j).2 := fun d => by unfold ARG; with_reducible rfl
  rw [← h]
  have g : ∀ a : IVec S16384 32, (fun i => shapeCast main_v36.ty.shape a Gen.shapeCasts_S16384_S16x1024 i) = shapeCast S16x1024 a Gen.shapeCasts_S16384_S16x1024 := fun a => rfl
  exact g _

/-- The result's buffer after the whole line. -/
theorem out_eq (V : Valuation τ sig (Elt Ideal)) :
    after ops V (main_v36 : DevRef τ sig)
      = REF (V (main_arg0 : DevRef τ sig)) (V (main_arg1 : DevRef τ sig)) (V (main_arg2 : DevRef τ sig)) := by
  rw [ops_split, tail_eq, dist_eq]
  unfold REF
  with_reducible rfl

/-- The list leaves the first argument. -/
theorem arg0_eq (V : Valuation τ sig (Elt Ideal)) :
    after ops V (main_arg0 : DevRef τ sig) = V (main_arg0 : DevRef τ sig) := by
  unfold ops
  after_results_simp

/-- The list leaves the second argument. -/
theorem arg1_eq (V : Valuation τ sig (Elt Ideal)) :
    after ops V (main_arg1 : DevRef τ sig) = V (main_arg1 : DevRef τ sig) := by
  unfold ops
  after_results_simp

/-- The list leaves the third argument. -/
theorem arg2_eq (V : Valuation τ sig (Elt Ideal)) :
    after ops V (main_arg2 : DevRef τ sig) = V (main_arg2 : DevRef τ sig) := by
  unfold ops
  after_results_simp

/-- The reference runs to the end; its result is `REF` of its arguments, which end as they were. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v36)
          = REF (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  θ_run_mono (run_seq (by decide) (by decide) defs main (fun _ => ops) main_eq (fun _ => ops_sub) m g (fun _ => ops_fresh))
    fun r h c => ⟨(h c main_v36).trans (out_eq _), (h c main_arg0).trans (arg0_eq _), (h c main_arg1).trans (arg1_eq _),
      (h c main_arg2).trans (arg2_eq _)⟩

/-- The reference's frame claim: it runs to the end, leaves its arguments and holds no semaphore count. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) :=
  θ_run_mono (run m g) fun r h => ⟨fun c => (h c).2, sem_eq_zero_of_no_sems rfl _⟩

end Cert.ReferenceIdeal.Value

end
-- ==== Proof.Select.lean ====
/- Choosing the nearest code: the kernel's way (the smallest squared distance, the float at or above its square, and the
   first code at or under that) and the reference's way (a fold of an arg-min body) both name the first code whose
   distance, cut off below at zero, is smallest. Over plain functions and lists: no array and no program here. -/
module

public import Idealize.ShloMosaic.Lib.Pointwise

@[expose] public section

noncomputable section

namespace Cert.Select

open Idealize.ShloMosaic

/-- The next candidate above `x`, as the kernel computes it. -/
def nx (x : EReal) : EReal := x + x * Ideal.ofBits .f32 0x33800001#32

/-- Keep the candidate `x` when its square root is still `s`, else what was held before. -/
def pick (s x h : EReal) : EReal := if Ideal.cmp .oeq (Ideal.sqrt x) s = 1#1 then x else h

/-- The same, the test written as an equation. -/
theorem pick_def (s x h : EReal) : pick s x h = if Ideal.sqrt x = s then x else h := by
  unfold pick
  by_cases e : Ideal.sqrt x = s
  · rw [if_pos e, if_pos]
    show BitVec.ofBool (decide (Ideal.sqrt x = s)) = 1#1
    rw [decide_eq_true e]
    rfl
  · rw [if_neg e, if_neg]
    show ¬ BitVec.ofBool (decide (Ideal.sqrt x = s)) = 1#1
    rw [decide_eq_false e]
    decide

/-- The kernel's threshold: the last of seven candidates from `s * s` upwards whose square root is `s`. -/
def hi (s : EReal) : EReal :=
  pick s (nx (nx (nx (nx (nx (nx (s * s))))))) (pick s (nx (nx (nx (nx (nx (s * s)))))) (pick s (nx (nx (nx (nx (s * s)))))
    (pick s (nx (nx (nx (s * s)))) (pick s (nx (nx (s * s))) (pick s (nx (s * s)) (s * s))))))

/-- The kernel's choice for one row, from the squared distances `d` and the codes' numbers `o`. -/
def rowsel (d o : Fin 8192 → EReal) : BitVec 32 :=
  Ideal.fptosi 32 (Finset.fold min (Ideal.ofBits .f32 0x7F800000#32) (fun k =>
    if d k ≤ hi (Ideal.sqrt (max (Finset.fold min (Ideal.ofBits .f32 0x7F800000#32) (fun x => d x) Finset.univ)
      (Ideal.ofBits .f32 0x00000000#32))) then o k else Ideal.ofBits .f32 0x7F800000#32) Finset.univ)

/-- The multiplier of a candidate is a nonnegative real number. -/
theorem step_real : ∃ u : ℝ, 0 ≤ u ∧ Ideal.ofBits .f32 0x33800001#32 = (u : EReal) := by
  refine ⟨(8388609 : ℝ) * 2 ^ (-47 : ℤ), by positivity, ?_⟩
  simp [Ideal.ofBits, Ideal.ieee]

/-- The word of the float infinity is the largest extended real. -/
theorem inf_top : Ideal.ofBits .f32 0x7F800000#32 = ⊤ := by
  simp [Ideal.ofBits, Ideal.ieee]

/-- The word of the float zero is zero. -/
theorem zero_zero : Ideal.ofBits .f32 0x00000000#32 = 0 := by
  simp [Ideal.ofBits, Ideal.ieee]

/-- The root of a real number that is not negative is its real root. -/
theorem sqrt_coe' (r : ℝ) (h : 0 ≤ r) : Ideal.sqrt (r : EReal) = ((Real.sqrt r : ℝ) : EReal) := by
  show (if r < 0 then (⊥ : EReal) else ((Real.sqrt r : ℝ) : EReal)) = _
  rw [if_neg (not_lt.mpr h)]

/-- A candidate at or above the held square changes nothing: only the square itself has that root. -/
theorem pick_eq (b y : ℝ) (hb : 0 ≤ b) (hy : b ≤ y) : pick (Ideal.sqrt (b : EReal)) (y : EReal) (b : EReal) = (b : EReal) := by
  unfold pick
  rw [sqrt_coe' b hb, sqrt_coe' y (hb.trans hy)]
  split_ifs with h
  · have h' : ((Real.sqrt y : ℝ) : EReal) = ((Real.sqrt b : ℝ) : EReal) := by
      by_contra hne
      have h0 : Ideal.cmp .oeq ((Real.sqrt y : ℝ) : EReal) ((Real.sqrt b : ℝ) : EReal) = 0#1 := by
        show BitVec.ofBool (decide (((Real.sqrt y : ℝ) : EReal) = ((Real.sqrt b : ℝ) : EReal))) = 0#1
        rw [decide_eq_false hne]
        rfl
      rw [h0] at h
      exact absurd h (by decide)
    have h2 : Real.sqrt y = Real.sqrt b := by exact_mod_cast h'
    rw [(Real.sqrt_inj (hb.trans hy) hb).mp h2]
  · rfl

/-- The next candidate above a nonnegative real is a real at or above it. -/
theorem nx_real (y : ℝ) (hy : 0 ≤ y) : ∃ z : ℝ, y ≤ z ∧ nx (y : EReal) = (z : EReal) := by
  obtain ⟨u, hu, e⟩ := step_real
  refine ⟨y + y * u, le_add_of_nonneg_right (mul_nonneg hy hu), ?_⟩
  unfold nx
  rw [e]
  push_cast
  rfl

/-- The kernel's threshold over the root of `b` is `b`. -/
theorem hi_eq (b : ℝ) (hb : 0 ≤ b) : hi (Ideal.sqrt (b : EReal)) = (b : EReal) := by
  have hs : Ideal.sqrt (b : EReal) * Ideal.sqrt (b : EReal) = (b : EReal) := by
    rw [sqrt_coe' b hb, ← EReal.coe_mul, Real.mul_self_sqrt hb]
  unfold hi
  rw [hs]
  obtain ⟨y1, h1, e1⟩ := nx_real b hb
  obtain ⟨y2, h2, e2⟩ := nx_real y1 (hb.trans h1)
  obtain ⟨y3, h3, e3⟩ := nx_real y2 (by linarith)
  obtain ⟨y4, h4, e4⟩ := nx_real y3 (by linarith)
  obtain ⟨y5, h5, e5⟩ := nx_real y4 (by linarith)
  obtain ⟨y6, h6, e6⟩ := nx_real y5 (by linarith)
  rw [e1, e2, e3, e4, e5, e6, pick_eq b y1 hb h1, pick_eq b y2 hb (by linarith), pick_eq b y3 hb (by linarith),
    pick_eq b y4 hb (by linarith), pick_eq b y5 hb (by linarith), pick_eq b y6 hb (by linarith)]

/-- A whole number below `2^13` as a real, rounded to a 32-bit word, is the number's word. -/
theorem word_eq (k : ℕ) (hk : k < 8192) : Ideal.fptosi 32 (((k : ℝ)) : EReal) = BitVec.ofNat 32 k := by
  unfold Ideal.fptosi
  rw [Ideal.toIntClamped_coe, if_pos (Nat.cast_nonneg k), Int.floor_natCast, min_eq_right (by norm_num; omega),
    max_eq_right (by norm_num), BitVec.ofInt_natCast]

/-- The kernel's choice is the first code whose squared distance, cut off at zero, is smallest. -/
theorem rowsel_eq (d : Fin 8192 → ℝ) (k0 : Fin 8192) (hle : ∀ k, max (d k0) 0 ≤ max (d k) 0)
    (hlt : ∀ k, k < k0 → max (d k0) 0 < max (d k) 0) :
    rowsel (fun k => (d k : EReal)) (fun k => (((k.val : ℝ)) : EReal)) = BitVec.ofNat 32 k0.val := by
  unfold rowsel
  rw [inf_top, zero_zero]
  have hm : max (Finset.fold min (⊤ : EReal) (fun x => (d x : EReal)) Finset.univ) 0 = ((max (d k0) 0 : ℝ) : EReal) := by
    apply le_antisymm
    · refine max_le ((Finset.fold_min_le _).mpr (Or.inr ⟨k0, Finset.mem_univ _, ?_⟩)) ?_
      · exact_mod_cast le_max_left (d k0) 0
      · exact_mod_cast le_max_right (d k0) 0
    · rcases le_or_gt (d k0) 0 with h | h
      · rw [max_eq_right h]
        exact le_max_right _ _
      · rw [max_eq_left h.le]
        refine le_trans ?_ (le_max_left _ _)
        rw [Finset.le_fold_min]
        refine ⟨le_top, fun x _ => ?_⟩
        have hx : d k0 ≤ d x := by
          rcases le_max_iff.mp ((le_max_left _ _).trans (hle x)) with h' | h'
          · exact h'
          · exact absurd h' (not_le.mpr h)
        exact_mod_cast hx
  rw [hm, hi_eq _ (le_max_right _ _)]
  have hf : Finset.fold min (⊤ : EReal) (fun k : Fin 8192 => if (d k : EReal) ≤ ((max (d k0) 0 : ℝ) : EReal) then (((k.val : ℝ)) : EReal) else ⊤) Finset.univ
      = (((k0.val : ℝ)) : EReal) := by
    apply le_antisymm
    · refine (Finset.fold_min_le _).mpr (Or.inr ⟨k0, Finset.mem_univ _, ?_⟩)
      rw [if_pos (by exact_mod_cast le_max_left _ _)]
    · rw [Finset.le_fold_min]
      refine ⟨le_top, fun x _ => ?_⟩
      split_ifs with h
      · have hx : d x ≤ max (d k0) 0 := by exact_mod_cast h
        have hk : k0 ≤ x := by
          by_contra hc
          have := hlt x (not_le.mp hc)
          exact absurd this (not_lt.mpr (max_le hx (le_max_right _ _)))
        exact_mod_cast hk
      · exact le_top
  rw [hf, word_eq _ k0.isLt]

/-- A function on the codes has a first smallest value. -/
theorem exists_first (g : Fin 8192 → ℝ) : ∃ k0, (∀ k, g k0 ≤ g k) ∧ ∀ k, k < k0 → g k0 < g k := by
  obtain ⟨a, -, ha⟩ := Finset.exists_min_image Finset.univ g ⟨0, Finset.mem_univ _⟩
  have hne : (Finset.univ.filter fun k => g k = g a).Nonempty := ⟨a, by simp⟩
  refine ⟨(Finset.univ.filter fun k => g k = g a).min' hne, ?_, ?_⟩
  · intro k
    have := Finset.min'_mem _ hne
    rw [(Finset.mem_filter.mp this).2]
    exact ha k (Finset.mem_univ _)
  · intro k hk
    have := Finset.min'_mem _ hne
    rw [(Finset.mem_filter.mp this).2]
    refine lt_of_le_of_ne (ha k (Finset.mem_univ _)) fun e => ?_
    exact absurd (Finset.min'_le _ k (by simp [e])) (not_le.mpr hk)

/-- A left fold by a body returning one of its arguments ends at a listed element that wins against everything. -/
theorem foldl_winner {α : Type} (f : α → α → α) (hf : ∀ a b, f a b = a ∨ f a b = b) (p : α) (L : List α)
    (hL : ∀ q ∈ L, f q p = p ∧ f p q = p) (hp : p ∈ L) : ∀ a, f a p = p ∧ f p a = p → L.foldl f a = p := by
  induction L with
  | nil => simp at hp
  | cons b L ih =>
    intro a ha
    rw [List.foldl_cons]
    have fix : ∀ M : List α, (∀ q ∈ M, f q p = p ∧ f p q = p) → M.foldl f p = p := by
      intro M
      induction M with
      | nil => intro _; rfl
      | cons c M ihM =>
        intro h
        rw [List.foldl_cons, (h c (by simp)).2]
        exact ihM fun q hq => h q (by simp [hq])
    have hL' : ∀ q ∈ L, f q p = p ∧ f p q = p := fun q hq => hL q (by simp [hq])
    rcases List.mem_cons.mp hp with e | e
    · rw [← e, ha.1]
      exact fix L hL'
    · refine ih hL' e _ ?_
      rcases hf a b with h | h <;> rw [h]
      · exact ha
      · exact hL b (by simp)

end Cert.Select

end
-- ==== Proof.Pay.lean ====
/- The kernel's step at one row: what each stored value is at an index, down to sums and a choice over the codes. -/
module

public import proofs.«01_k».proof.Proof.Gen.KernelIdeal.Skeleton
public import Idealize.ShloMosaic.Lib.Pointwise
public import proofs.«01_k».proof.Proof.Select

@[expose] public section

set_option maxRecDepth 16384

noncomputable section

namespace Cert.KernelIdeal.Value

open Idealize.ShloMosaic Idealize.ShloMosaic.TcCoe Idealize.SL.Sem
open Cert.Select Cert.KernelIdeal Cert.KernelIdeal.Gen

/-- A row of a `512 × 8192` array, folded to its smallest entry. -/
theorem min_row (d : FVec Ideal S512x8192 .f32) (r : Fin 512) :
    (shapeCast S512x1 (multiReduction .minimumf [1] S512 d 0x7F800000#32 reduces_S512x8192_S512 (.inl rfl) rfl) shapeCasts_S512_S512x1 : FVec Ideal S512x1 .f32) (ix2 r 0)
      = Finset.fold min (Ideal.ofBits FTy.f32 0x7F800000#32) (fun x => d (ix2 r x)) Finset.univ := by
  pointwise

/-- The root of a column cut off at zero, at an index. -/
theorem root_cut (v : FVec Ideal S512x1 .f32) (i) :
    sqrt (maximumf v (broadcast S512x1 (Scalar.ofBits (F := Ideal) .f32 0x00000000#32))) i = Ideal.sqrt (max (v i) (Ideal.ofBits .f32 0x00000000#32)) := rfl

/-- The root of the smallest squared distance of a row, cut off at zero. -/
theorem root_row (a : FVec Ideal S512x1 .f32) (b : FVec Ideal S512x8192 .f32) (o : FVec Ideal S1x8192 .f32) (r : Fin 512) (d : FVec Ideal S512x8192 .f32)
    (hd : k0_pay12 a b o = d) :
    k0_pay13 (F := Ideal) a b o (ix2 r 0)
      = Ideal.sqrt (max (Finset.fold min (Ideal.ofBits FTy.f32 0x7F800000#32) (fun x => d (ix2 r x)) Finset.univ) (Ideal.ofBits .f32 0x00000000#32)) := by
  unfold k0_pay13
  rw [hd]
  exact (root_cut _ _).trans (congrArg (fun e => Ideal.sqrt (max e (Ideal.ofBits .f32 0x00000000#32))) (min_row d r))

/-- The square of the root, over the root as a variable. -/
theorem sq_at (a : FVec Ideal S512x1 .f32) (b : FVec Ideal S512x8192 .f32) (o : FVec Ideal S1x8192 .f32) (i) (v) (h : k0_pay13 (F := Ideal) a b o = v) :
    k0_pay14 (F := Ideal) a b o i = (v i : EReal) * (v i : EReal) := by
  unfold k0_pay14
  rw [h]
  rfl

/-- The first candidate, over the one before as a variable. -/
theorem x1_at (a : FVec Ideal S512x1 .f32) (b : FVec Ideal S512x8192 .f32) (o : FVec Ideal S1x8192 .f32) (i) (v) (h : k0_pay14 (F := Ideal) a b o = v) :
    k0_pay15 (F := Ideal) a b o i = nx (v i) := by
  unfold k0_pay15
  rw [h]
  rfl

/-- The second candidate, over the one before as a variable. -/
theorem x2_at (a : FVec Ideal S512x1 .f32) (b : FVec Ideal S512x8192 .f32) (o : FVec Ideal S1x8192 .f32) (i) (v) (h : k0_pay15 (F := Ideal) a b o = v) :
    k0_pay16 (F := Ideal) a b o i = nx (v i) := by
  unfold k0_pay16
  rw [h]
  rfl

/-- The third candidate, over the one before as a variable. -/
theorem x3_at (a : FVec Ideal S512x1 .f32) (b : FVec Ideal S512x8192 .f32) (o : FVec Ideal S1x8192 .f32) (i) (v) (h : k0_pay16 (F := Ideal) a b o = v) :
    k0_pay17 (F := Ideal) a b o i = nx (v i) := by
  unfold k0_pay17
  rw [h]
  rfl

/-- The fourth candidate, over the one before as a variable. -/
theorem x4_at (a : FVec Ideal S512x1 .f32) (b : FVec Ideal S512x8192 .f32) (o : FVec Ideal S1x8192 .f32) (i) (v) (h : k0_pay17 (F := Ideal) a b o = v) :
    k0_pay18 (F := Ideal) a b o i = nx (v i) := by
  unfold k0_pay18
  rw [h]
  rfl

/-- The fifth candidate, over the one before as a variable. -/
theorem x5_at (a : FVec Ideal S512x1 .f32) (b : FVec Ideal S512x8192 .f32) (o : FVec Ideal S1x8192 .f32) (i) (v) (h : k0_pay18 (F := Ideal) a b o = v) :
    k0_pay19 (F := Ideal) a b o i = nx (v i) := by
  unfold k0_pay19
  rw [h]
  rfl

/-- The held candidate after five steps, over the candidates as variables. -/
theorem held_at (b : FVec Ideal S512x8192 .f32) (a : FVec Ideal S512x1 .f32) (o : FVec Ideal S1x8192 .f32) (i) (s x0 x1 x2 x3 x4 x5 : FVec Ideal S512x1 .f32)
    (hs : k0_pay13 (F := Ideal) a b o = s) (h0 : k0_pay14 (F := Ideal) a b o = x0) (h1 : k0_pay15 (F := Ideal) a b o = x1) (h2 : k0_pay16 (F := Ideal) a b o = x2)
    (h3 : k0_pay17 (F := Ideal) a b o = x3) (h4 : k0_pay18 (F := Ideal) a b o = x4) (h5 : k0_pay19 (F := Ideal) a b o = x5) :
    k0_pay20 (F := Ideal) a b o i
      = pick (s i) (x5 i) (pick (s i) (x4 i) (pick (s i) (x3 i) (pick (s i) (x2 i) (pick (s i) (x1 i) (x0 i))))) := by
  unfold k0_pay20
  rw [hs, h0, h1, h2, h3, h4, h5]
  rfl

/-- The last candidate and the choice of the code, at a row. -/
theorem choice_at (a : FVec Ideal S512x8192 .f32) (b c d : FVec Ideal S512x1 .f32) (e : Ideal .f32) (o : FVec Ideal S1x8192 .f32) (r : Fin 512) :
    k0_pay21 (F := Ideal) a b c d e o (ix3 0 0 r)
      = Ideal.fptosi 32 (Finset.fold min (Ideal.ofBits .f32 0x7F800000#32) (fun k =>
          if a (ix2 r k) ≤ pick (b (ix2 r 0)) (c (ix2 r 0) + c (ix2 r 0) * e) (d (ix2 r 0)) then o (ix2 0 k) else Ideal.ofBits .f32 0x7F800000#32) Finset.univ) := by
  pointwise [k0_pay21]
  simp only [pick_def]
  rfl

/-- The first half's choice, from the rows' lengths, the products with the codes, the codes' lengths and numbers. -/
def half (a : FVec Ideal S512x1 .f32) (b : FVec Ideal S512x8192 .f32) (s o : FVec Ideal S1x8192 .f32) : IVec S1x1x512 32 :=
  k0_pay21 (F := Ideal) (k0_pay12 a b s) (k0_pay13 a b s) (k0_pay19 a b s) (k0_pay20 a b s) (Scalar.ofBits .f32 0x33800001#32) o

/-- The half's choice at a row is the scalar choice over the row's squared distances. -/
theorem half_at (a : FVec Ideal S512x1 .f32) (b : FVec Ideal S512x8192 .f32) (s o : FVec Ideal S1x8192 .f32) (r : Fin 512) :
    half a b s o (ix3 0 0 r) = rowsel (fun k => k0_pay12 (F := Ideal) a b s (ix2 r k)) (fun k => o (ix2 0 k)) := by
  unfold half
  rw [choice_at, held_at b a s (ix2 r 0) _ _ _ _ _ _ _ rfl rfl rfl rfl rfl rfl rfl]
  rw [x5_at a b s _ _ rfl, x4_at a b s _ _ rfl, x3_at a b s _ _ rfl, x2_at a b s _ _ rfl, x1_at a b s _ _ rfl, sq_at a b s _ _ rfl, root_row a b s r _ rfl]
  rfl

/-- The second half's choice is the first half's, over its own rows. -/
theorem half2_eq (a : FVec Ideal S512x1 .f32) (b : FVec Ideal S512x8192 .f32) (s o : FVec Ideal S1x8192 .f32) :
    k0_pay1 (F := Ideal) (k0_pay22 a b s) (k0_pay23 a b s) (k0_pay27 a b s) (k0_pay28 a b s) o = half a b s o := by
  rfl

/-- A squared distance, at a row and a code. -/
theorem dist_at (a : FVec Ideal S512x1 .f32) (b : FVec Ideal S512x8192 .f32) (o : FVec Ideal S1x8192 .f32) (r : Fin 512) (k : Fin 8192) :
    k0_pay12 (F := Ideal) a b o (ix2 r k) = ((o (ix2 0 k) : EReal) + a (ix2 r 0)) + b (ix2 r k) := by
  pointwise [k0_pay12]

/-- A row divided by the larger of its length and the small constant. -/
def nrm (v : Fin 32 → EReal) (l : Fin 32) : EReal :=
  Ideal.div (v l) (max (Ideal.sqrt (∑ j, v j * v j)) (Ideal.ofBits .f32 0x2B8CBCCC#32))

/-- A projected and normalised row, at an index. -/
theorem proj_at (x : FVec Ideal S512x512 .f32) (w : FVec Ideal S512x32 .f32) (r : Fin 512) (l : Fin 32) :
    k0_pay5 (F := Ideal) x w (ix2 r l) = nrm (fun l => ∑ k, x (ix2 r k) * w (ix2 k l)) l := by
  pointwise [k0_pay5]
  rfl

/-- The squared length of a normalised row, at an index. -/
theorem sumsq_at (p : FVec Ideal S512x32 .f32) (x : FVec Ideal S512x512 .f32) (w : FVec Ideal S512x32 .f32) (hp : k0_pay5 (F := Ideal) x w = p) (r : Fin 512) :
    k0_pay6 (F := Ideal) x w (ix2 r 0) = ∑ l, p (ix2 r l) * p (ix2 r l) := by
  unfold k0_pay6
  rw [hp]
  pointwise

/-- The product of minus twice a normalised row with a code, at an index. -/
theorem cross_at (p : FVec Ideal S512x32 .f32) (c : FVec Ideal S32x8192 .f32) (r : Fin 512) (k : Fin 8192) :
    k0_pay11 (F := Ideal) p c (ix2 r k) = ∑ l, (p (ix2 r l) * Ideal.ofBits .f32 0xC0000000#32) * c (ix2 l k) := by
  pointwise [k0_pay11]

/-- The first half's product is that product of its normalised rows. -/
theorem cross1_eq (x : FVec Ideal S512x512 .f32) (w : FVec Ideal S512x32 .f32) (c : FVec Ideal S32x8192 .f32) :
    k0_pay7 (F := Ideal) x w c = k0_pay11 (k0_pay5 x w) c := rfl

/-- The second half's normalised rows are the first half's function of its own input. -/
theorem proj2_eq (x : FVec Ideal S512x512 .f32) (w : FVec Ideal S512x32 .f32) : k0_pay8 (F := Ideal) x w = k0_pay5 x w := rfl

/-- So are the second half's squared lengths. -/
theorem sumsq2_eq (x : FVec Ideal S512x512 .f32) (w : FVec Ideal S512x32 .f32) : k0_pay10 (F := Ideal) (k0_pay9 x w) = k0_pay6 x w := rfl

/-- A normalised code, at an index. -/
theorem code_at (c : FVec Ideal S32x8192 .f32) (l : Fin 32) (k : Fin 8192) :
    k0_pay3 (F := Ideal) c (ix2 l k) = nrm (fun l => c (ix2 l k)) l := by
  pointwise [k0_pay3, k0_pay2]
  rfl

/-- The squared length of a normalised code, at an index. -/
theorem codesq_at (c : FVec Ideal S32x8192 .f32) (k : Fin 8192) :
    k0_pay4 (F := Ideal) c (ix2 0 k) = ∑ l, nrm (fun l => c (ix2 l k)) l * nrm (fun l => c (ix2 l k)) l := by
  pointwise [k0_pay4, k0_pay2]
  rfl

/-- The kernel's choice for one input row, over the projection, the normalised codes, their squared lengths and their numbers. -/
def ROW (x : Fin 512 → EReal) (w : FVec Ideal S512x32 .f32) (c : FVec Ideal S32x8192 .f32) (s o : FVec Ideal S1x8192 .f32) : BitVec 32 :=
  rowsel (fun k => ((s (ix2 0 k) : EReal) + ∑ l, nrm (fun l => ∑ j, x j * w (ix2 j l)) l * nrm (fun l => ∑ j, x j * w (ix2 j l)) l)
      + ∑ l, (nrm (fun l => ∑ j, x j * w (ix2 j l)) l * Ideal.ofBits .f32 0xC0000000#32) * c (ix2 l k))
    (fun k => o (ix2 0 k))

/-- A half's choice at a row is the choice over that row of its input. -/
theorem half_row (x : FVec Ideal S512x512 .f32) (w : FVec Ideal S512x32 .f32) (c : FVec Ideal S32x8192 .f32) (s o : FVec Ideal S1x8192 .f32) (r : Fin 512) :
    half (k0_pay6 x w) (k0_pay7 x w c) s o (ix3 0 0 r) = ROW (fun j => x (ix2 r j)) w c s o := by
  rw [half_at]
  unfold ROW
  congr 1
  funext k
  rw [dist_at, cross1_eq, cross_at, sumsq_at _ x w rfl]
  simp only [proj_at]

/-- The first half's stored word. -/
theorem half1_word (x : FVec Ideal S512x512 .f32) (w : FVec Ideal S512x32 .f32) (c : FVec Ideal S32x8192 .f32) (s o : FVec Ideal S1x8192 .f32) (i : S1x1x512.Idx) :
    k0_pay21 (F := Ideal) (k0_pay12 (k0_pay6 x w) (k0_pay7 x w c) s) (k0_pay13 (k0_pay6 x w) (k0_pay7 x w c) s)
        (k0_pay19 (k0_pay6 x w) (k0_pay7 x w c) s) (k0_pay20 (k0_pay6 x w) (k0_pay7 x w c) s) (FloatOps.ofBits .f32 0x33800001#32) o i
      = ROW (fun j => x (ix2 (i 2) j)) w c s o := by
  obtain ⟨a, b, r, rfl⟩ : ∃ (a b : Fin 1) (r : Fin 512), i = ix3 a b r := ⟨i 0, i 1, i 2, eq_ix3 i⟩
  obtain rfl : a = 0 := Subsingleton.elim _ _
  obtain rfl : b = 0 := Subsingleton.elim _ _
  exact half_row x w c s o r

/-- The second half's stored word. -/
theorem half2_word (x : FVec Ideal S512x512 .f32) (w : FVec Ideal S512x32 .f32) (c : FVec Ideal S32x8192 .f32) (s o : FVec Ideal S1x8192 .f32) (i : S1x1x512.Idx) :
    k0_pay1 (F := Ideal) (k0_pay22 (k0_pay10 (k0_pay9 x w)) (k0_pay11 (k0_pay8 x w) c) s) (k0_pay23 (k0_pay10 (k0_pay9 x w)) (k0_pay11 (k0_pay8 x w) c) s)
        (k0_pay27 (k0_pay10 (k0_pay9 x w)) (k0_pay11 (k0_pay8 x w) c) s) (k0_pay28 (k0_pay10 (k0_pay9 x w)) (k0_pay11 (k0_pay8 x w) c) s) o i
      = ROW (fun j => x (ix2 (i 2) j)) w c s o := by
  obtain ⟨a, b, r, rfl⟩ : ∃ (a b : Fin 1) (r : Fin 512), i = ix3 a b r := ⟨i 0, i 1, i 2, eq_ix3 i⟩
  obtain rfl : a = 0 := Subsingleton.elim _ _
  obtain rfl : b = 0 := Subsingleton.elim _ _
  rw [sumsq2_eq, proj2_eq, ← cross1_eq, half2_eq]
  exact half_row x w c s o r

end Cert.KernelIdeal.Value

end
-- ==== Proof.Block.lean ====
/- What the kernel's result array holds after its region: every entry is the choice of `ROW` over its own row of the input. -/
module

public import proofs.«01_k».proof.Proof.Gen.KernelIdeal.Frame
public import proofs.«01_k».proof.Proof.Pay
public import Idealize.ShloMosaic.Lib.Pipeline.ValueKit
public import Idealize.ShloMosaic.Lib.Pipeline.ReadBack
public import Idealize.ShloMosaic.Lib.Pipeline.ValueKit.Held

@[expose] public section

set_option maxRecDepth 16384

noncomputable section

namespace Cert.KernelIdeal.Value

open Idealize.ShloMosaic Idealize.ShloMosaic.TcCoe Idealize.SL.Sem
open Idealize.ShloMosaic.Pipeline (Dat)
open Cert.Select Cert.KernelIdeal Cert.KernelIdeal.Gen

variable (m : (ℓ : Loc nD τ sig) → Buf (Elt Ideal) ℓ)

/-- The windows' block indices at every grid point. -/
theorem idx : ∀ t : Fin cfg0.N, win0_0.index t = ![t.val, 0] ∧ win0_1.index t = ![0, 0] ∧ win0_2.index t = ![0, 0] ∧ win0_3.index t = ![0, 0] ∧ win0_4.index t = ![t.val, 0, 0] ∧ t.val < 16 :=
  (by decide +kernel : ∀ t : Fin grid0.N, _)

/-- Rows with equal entries have the same choice. -/
theorem row_congr (x x' : Fin 512 → EReal) (w : FVec Ideal S512x32 .f32) (c : FVec Ideal S32x8192 .f32) (s o : FVec Ideal S1x8192 .f32) (h : ∀ j, x j = x' j) :
    ROW x w c s o = ROW x' w c s o := by
  rw [funext h]

/-- The choice over a row depends only on the row's entries, the codes and their squared lengths. -/
theorem row_congr4 (x x' : Fin 512 → EReal) (w : FVec Ideal S512x32 .f32) (c c' : FVec Ideal S32x8192 .f32) (s s' o : FVec Ideal S1x8192 .f32) (h : ∀ j, x j = x' j)
    (hc : c = c') (hs : s = s') : ROW x w c s o = ROW x' w c' s' o := by
  rw [funext h, hc, hs]

/-- The second half of a block's rows, at an index. -/
theorem ld_hi (X : Vec Ideal S1024x512 .f32) (r j : Fin 512) (r' : Fin 1024) (h : r'.val = 512 + r.val) :
    View.ld (Val := Elt Ideal) (e' := .f32) X (Rect.unit ![512, 0] ![512, 512] inb_S1024x512_S512x512_512_0) (ix2 r j) = X (ix2 r' j) := by
  refine congrArg X (funext fun a => Fin.ext ?_)
  match a with
  | ⟨0, _⟩ =>
    show 512 + 1 * r.val = r'.val
    omega
  | ⟨1, _⟩ =>
    show 0 + 1 * j.val = j.val
    omega

/-- The first half of a block's rows, at an index. -/
theorem ld_lo (X : Vec Ideal S1024x512 .f32) (r j : Fin 512) (r' : Fin 1024) (h : r'.val = 0 + r.val) :
    View.ld (Val := Elt Ideal) (e' := .f32) X (Rect.unit ![0, 0] ![512, 512] inb_S1024x512_S512x512_0_0) (ix2 r j) = X (ix2 r' j) := by
  refine congrArg X (funext fun a => Fin.ext ?_)
  match a with
  | ⟨0, _⟩ =>
    show 0 + 1 * r.val = r'.val
    omega
  | ⟨1, _⟩ =>
    show 0 + 1 * j.val = j.val
    omega

/-- The first point: the row's choice over the codes it has just normalised. -/
theorem point_A (c : Dev nD) (t : Fin cfg0.N) (h : t.val % 16 = 0) (y : S1x1x1024.Idx) (r : Fin 1024) (hr : (y 2 : ℕ) = r.val) : (outsAt0 m c t.val t.isLt).1 y
    = ROW (fun j => iblk m c 0 t (ix2 r j)) (iblk m c 1 t) (k0_pay3 (iblk m c 2 t)) (k0_pay4 (iblk m c 2 t)) (iblk m c 3 t) := by
  rw [outsAt0_A m c t h]
  frame_out
  clear h
  canon_tiles x h
  case piece0 =>
    refine (half2_word _ _ _ _ _ x).trans (row_congr _ _ _ _ _ _ fun j => ?_)
    exact ld_hi _ (x 2) j r (by omega)
  case piece1 =>
    refine (half1_word _ _ _ _ _ x).trans (row_congr _ _ _ _ _ _ fun j => ?_)
    exact ld_lo _ (x 2) j r (by omega)

/-- A later point: the row's choice over the codes kept from the point before. -/
theorem point_B (c : Dev nD) (t : Fin cfg0.N) (h : ¬ t.val % 16 = 0) (y : S1x1x1024.Idx) (r : Fin 1024) (hr : (y 2 : ℕ) = r.val) : (outsAt0 m c t.val t.isLt).1 y
    = ROW (fun j => iblk m c 0 t (ix2 r j)) (iblk m c 1 t) (outsAt0 m c (t.val - 1) (Nat.lt_of_le_of_lt (Nat.sub_le _ _) t.isLt)).2.1
        (outsAt0 m c (t.val - 1) (Nat.lt_of_le_of_lt (Nat.sub_le _ _) t.isLt)).2.2 (iblk m c 3 t) := by
  rw [outsAt0_B m c t h]
  frame_out
  clear h
  canon_tiles x h
  case piece0 =>
    refine (half2_word _ _ _ _ _ x).trans (row_congr4 _ _ _ _ _ _ _ _ (fun j => ?_) (read_unread_whole _ _ _) (read_unread_whole _ _ _))
    exact ld_hi _ (x 2) j r (by omega)
  case piece1 =>
    refine (half1_word _ _ _ _ _ x).trans (row_congr4 _ _ _ _ _ _ _ _ (fun j => ?_) (read_unread_whole _ _ _) (read_unread_whole _ _ _))
    exact ld_lo _ (x 2) j r (by omega)

/-- The codes' window is the whole array at every point. -/
theorem iblk_2 (c : Dev nD) (t : Fin cfg0.N) : iblk m c 2 t = V m c main_v1 := by
  blk_ext! [iblk, idx t]

/-- Every step reads the whole projection. -/
theorem iblk_1 (c : Dev nD) (t : Fin cfg0.N) : iblk m c 1 t = V m c main_arg1 := by
  blk_ext! [iblk, idx t]

/-- Every step reads all of the codes' numbers. -/
theorem iblk_3 (c : Dev nD) (t : Fin cfg0.N) : iblk m c 3 t = V m c main_call0_v1 := by
  blk_ext! [iblk, idx t]

/-- Step `t` reads rows `1024 t` to `1024 t + 1023` of the input. -/
theorem iblk_0 (c : Dev nD) (t : Fin cfg0.N) (r : Fin 1024) (j : Fin 512) (h : t.val < 16) : iblk m c 0 t (ix2 r j) = V m c main_v0 (ix2 ⟨t.val * 1024 + r.val, by omega⟩ j) := by
  blk_ext [iblk, idx t]

/-- The kept codes, at every point. -/
theorem kept_codes (c : Dev nD) (t : Fin cfg0.N) : (outsAt0 m c t.val t.isLt).2.1 = k0_pay3 (V m c main_v1) :=
  (Pipeline.eq_of_write_hold (fun n h => (outsAt0 m c n h).2.1) 16 (fun _ => k0_pay3 (V m c main_v1))
    (fun t h => by
      rw [outsAt0_A m c t h]
      frame_out
      rw [iblk_2])
    (fun t h => by rw [outsAt0_B m c t h]; rfl) t)

/-- The kept squared lengths, at every point. -/
theorem kept_lengths (c : Dev nD) (t : Fin cfg0.N) : (outsAt0 m c t.val t.isLt).2.2 = k0_pay4 (V m c main_v1) :=
  (Pipeline.eq_of_write_hold (fun n h => (outsAt0 m c n h).2.2) 16 (fun _ => k0_pay4 (V m c main_v1))
    (fun t h => by
      rw [outsAt0_A m c t h]
      frame_out
      rw [iblk_2])
    (fun t h => by rw [outsAt0_B m c t h]; rfl) t)

/-- Every point: the row's choice over the normalised codes. -/
theorem point (c : Dev nD) (t : Fin cfg0.N) (y : S1x1x1024.Idx) (r : Fin 1024) (hr : (y 2 : ℕ) = r.val) : (outsAt0 m c t.val t.isLt).1 y
    = ROW (fun j => iblk m c 0 t (ix2 r j)) (V m c main_arg1) (k0_pay3 (V m c main_v1)) (k0_pay4 (V m c main_v1)) (V m c main_call0_v1) := by
  by_cases h : t.val % 16 = 0
  · rw [point_A m c t h y r hr, iblk_1, iblk_2, iblk_3]
  · rw [point_B m c t h y r hr, iblk_1, iblk_3]
    have e1 := kept_codes m c ⟨t.val - 1, Nat.lt_of_le_of_lt (Nat.sub_le _ _) t.isLt⟩
    have e2 := kept_lengths m c ⟨t.val - 1, Nat.lt_of_le_of_lt (Nat.sub_le _ _) t.isLt⟩
    rw [e1, e2]

/-- The region's result, from the arrays it reads. -/
def OUT (X : FVec Ideal S16384x512 .f32) (w : FVec Ideal S512x32 .f32) (c : FVec Ideal S32x8192 .f32) (o : FVec Ideal S1x8192 .f32) : IVec S16x1x1024 32 := fun i =>
  ROW (fun j => X (ix2 ⟨(i 0 : ℕ) * 1024 + (i 2 : ℕ), by idx_bounds; omega⟩ j)) w (k0_pay3 c) (k0_pay4 c) o

/-- The result array after the region. -/
theorem final (c : Dev nD) : (dats m 0 c).arrAt 4 (cfgs 0).N
    = OUT (V m c main_v0) (V m c main_arg1) (V m c main_v1) (V m c main_call0_v1) := by
  refine (dats m 0 c).arrAt_eq_of_covers 4 _ (by decide +kernel) fun t hf y => ?_
  blk_simp
  rw [after0_4]
  refine (point m c t y (y 2) rfl).trans ?_
  unfold OUT
  refine row_congr _ _ _ _ _ _ fun j => ?_
  blk_ext [iblk, idx t]

end Cert.KernelIdeal.Value
end
-- ==== Proof.Tail.lean ====
/- The kernel's whole run: what its region reads, and what @main's last lines make of the region's result. -/
module

public import proofs.«01_k».proof.Proof.Gen.KernelIdeal.Frame
public import proofs.«01_k».proof.Proof.Block
public import Idealize.ShloMosaic.Lib.Claim
public import Idealize.ShloMosaic.Lib.Pipeline.ValueKit
public import Idealize.ShloMosaic.Lib.Pipeline.ValueKit.Held

@[expose] public section

set_option maxRecDepth 16384

noncomputable section

namespace Cert.KernelIdeal.Value

open Idealize.ShloMosaic Idealize.ShloMosaic.TcCoe Idealize.SL.Sem
open Idealize.ShloMosaic.Pipeline (Dat)
open Cert.Select Cert.KernelIdeal Cert.KernelIdeal.Gen

variable (m : (ℓ : Loc nD τ sig) → Buf (Elt Ideal) ℓ)

/-- The kernel's input rows: the input, its first two axes joined. -/
theorem read_v0 (c : Dev nD) : V m c main_v0 = shapeCast S16384x512 (m ((c.tc : Thread nD τ).loc main_arg0)) shapeCasts_S16x1024x512_S16384x512 := by
  entry_read
  unfold hostOps0 hostOps0_1
  simp only [List.flatten_cons, List.flatten_nil, List.cons_append, List.nil_append, List.append_nil]
  after_results_simp
  rfl

/-- The kernel's codebook: the codebook with its two axes exchanged. -/
theorem read_v1 (c : Dev nD) : V m c main_v1 = transpose S32x8192 [1, 0] (m ((c.tc : Thread nD τ).loc main_arg2)) transposes_S8192x32_S32x8192_1_0 := by
  entry_read
  unfold hostOps0 hostOps0_1
  simp only [List.flatten_cons, List.flatten_nil, List.cons_append, List.nil_append, List.append_nil]
  after_results_simp

/-- The kernel's projection is the argument itself. -/
theorem read_w (c : Dev nD) : V m c main_arg1 = m ((c.tc : Thread nD τ).loc main_arg1) := by
  rfl

/-- The codes' numbers, as floats in one row. -/
theorem read_iota (c : Dev nD) : V m c main_call0_v1 = shapeCast S1x8192 (sitofp (F := Ideal) .f32 (iotaInDim S8192 32 0)) shapeCasts_S8192_S1x8192 := by
  entry_read
  unfold hostOps0 hostOps0_1
  simp only [List.flatten_cons, List.flatten_nil, List.cons_append, List.nil_append, List.append_nil]
  after_results_simp
  rfl

/-- A number below 8192 reads back from its word unchanged. -/
theorem word_float (k : Fin 8192) : FloatOps.sitofp (F := Ideal) FTy.f32 (BitVec.ofNat 32 k.val) = ((k.val : ℝ) : EReal) := by
  have h : (BitVec.ofNat 32 k.val).toInt = (k.val : ℤ) := by
    rw [BitVec.toInt_ofNat']
    have := k.isLt
    simp [Int.bmod]
    omega
  show (((BitVec.ofNat 32 k.val).toInt : ℝ) : EReal) = _
  rw [h]
  norm_cast

/-- Entry `k` of the codes' numbers is `k`. -/
theorem iota_at (k : Fin 8192) : (shapeCast S1x8192 (sitofp (F := Ideal) .f32 (iotaInDim S8192 32 0)) shapeCasts_S8192_S1x8192) (ix2 0 k) = ((k.val : ℝ) : EReal) := by
  pointwise
  exact word_float k

/-- The region's result array after the region. -/
theorem region_out (c : Dev nD) : Pipeline.withArrays (cfgs 0).spec c (V0 m c) (fun w => (dats m 0 c).arrAt w (cfgs 0).N) (Proc.tc.devRef main_call0_v2)
    = OUT (V m c main_v0) (V m c main_arg1) (V m c main_v1) (V m c main_call0_v1) :=
  (Pipeline.withArrays_arr (cfgs 0).spec (by decide) c (V0 m c) (fun w => (dats m 0 c).arrAt w (cfgs 0).N) 4).trans (final m c)

/-- What @main's last lines make of the region's result: the same words, as 16 rows of 1024. -/
theorem tail (c : Dev nD) : Pipeline.afterTail₀ cfgs (dats m) 0 (V0 m) [hostOps1, hostOps1_1] c main_v3
   = shapeCast S16x1024 (shapeCast S16384 (OUT (V m c main_v0) (V m c main_arg1) (V m c main_v1) (V m c main_call0_v1)) shapeCasts_S16x1x1024_S16384) shapeCasts_S16384_S16x1024 := by
  unfold Pipeline.afterTail₀ hostOps1 hostOps1_1
  simp only [List.flatten_cons, List.flatten_nil, List.cons_append, List.nil_append, List.append_nil]
  after_results_simp
  exact congrArg (fun a : IVec S16x1x1024 32 => shapeCast S16x1024 (shapeCast S16384 a shapeCasts_S16x1x1024_S16384) shapeCasts_S16384_S16x1024) (region_out m c)

/-- The kernel's answer in terms of its three arguments. -/
def ANS (X : Vec Ideal S16x1024x512 .f32) (R : Vec Ideal S512x32 .f32) (C : Vec Ideal S8192x32 .f32) : IVec S16x1024 32 :=
  shapeCast S16x1024 (shapeCast S16384 (OUT (shapeCast S16384x512 X shapeCasts_S16x1024x512_S16384x512) R
    (transpose S32x8192 [1, 0] C transposes_S8192x32_S32x8192_1_0)
    (shapeCast S1x8192 (sitofp (F := Ideal) .f32 (iotaInDim S8192 32 0)) shapeCasts_S8192_S1x8192))
    shapeCasts_S16x1x1024_S16384) shapeCasts_S16384_S16x1024

/-- `tail`, with the region's inputs read back to the arguments. -/
theorem tail_ans (c : Dev nD) : Pipeline.afterTail₀ cfgs (dats m) 0 (V0 m) [hostOps1, hostOps1_1] c main_v3
   = ANS (m ((c.tc : Thread nD τ).loc main_arg0)) (m ((c.tc : Thread nD τ).loc main_arg1)) (m ((c.tc : Thread nD τ).loc main_arg2)) := by
  rw [tail, read_v0, read_v1, read_w, read_iota]
  rfl

variable (ρ : Dev nD → PrngReg)

/-- The kernel's run: the result is `ANS` of the arguments, and the arguments end as they began. -/
theorem run : θ_run defs (onTc (τ := τ) (main (F := Ideal))) ⟨m, fun _ => 0, ρ⟩ (fun r => ∀ c : Dev nD,
      r.2.mem ((c.tc : Thread nD τ).loc main_v3)
        = ANS (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun r h c => ⟨((h.2 c).2 main_v3 (Pipeline.mem_restRefs_of main_v3 (by decide) (by decide))).trans (tail_ans m c), h.1 c⟩)
    (θ_run_and (unchanged m ρ) (run_main m ρ))

end Cert.KernelIdeal.Value

end
-- ==== Proof.RefVal.lean ====
/- The reference's distances at an index, in the same words as the kernel's step: normalised rows, their squared
   lengths and their product. -/
module

public import proofs.«01_k».proof.Proof.RefRun
public import proofs.«01_k».proof.Proof.Pay
public import Idealize.ShloMosaic.Lib.Pointwise

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Cert.KernelIdeal.Value (nrm)

/-- A projected row: the sums of one input row times the projection's columns. -/
theorem proj_at (X : FVec Ideal S16x1024x512 .f32) (R : FVec Ideal S512x32 .f32) (j : Fin 16384) (l : Fin 32) :
    PROJ X R (ix2 j l) = ∑ k : Fin 512, (X (ix3 ⟨j.val / 1024, by omega⟩ ⟨j.val % 1024, by omega⟩ k) : EReal) * R (ix2 k l) := by
  pointwise [PROJ]

/-- A normalised row of the projected input, at an index. -/
theorem nx_at (v : FVec Ideal S16384x32 .f32) (j : Fin 16384) (l : Fin 32) :
    NX v (ix2 j l) = nrm (fun l => v (ix2 j l)) l := by
  pointwise [NX]
  rfl

/-- A normalised row of the codebook, at an index. -/
theorem nc_at (v : FVec Ideal S8192x32 .f32) (k : Fin 8192) (l : Fin 32) :
    NC v (ix2 k l) = nrm (fun l => v (ix2 k l)) l := by
  pointwise [NC]
  rfl

/-- A distance, at an index. -/
theorem dist_at (p : FVec Ideal S16384x32 .f32) (q : FVec Ideal S8192x32 .f32) (k : Fin 8192) (j : Fin 16384) :
    DIST p q (ix2 k j) = Ideal.sqrt (max (((∑ l, (q (ix2 k l) : EReal) * q (ix2 k l)) + ∑ l, (p (ix2 j l) : EReal) * p (ix2 j l))
      - Ideal.ofBits .f32 0x40000000#32 * ∑ l, (q (ix2 k l) : EReal) * p (ix2 j l)) (Ideal.ofBits .f32 0x00000000#32)) := by
  pointwise [DIST]

end Cert.ReferenceIdeal.Value

end
-- ==== Proof.Argmin.lean ====
/- The reference's arg-min: over real distances it is the first position of the least one. -/
module

public import proofs.«01_k».proof.Proof.RefVal

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

/-- The arg-min's step, as a plain choice: the left pair where it is smaller, or equal with the smaller index. -/
theorem step_eq (a b : Ideal FTy.f32 × BitVec 32) :
    reducer_argmin_f32_i32 (F := Ideal) a b
      = if (a.1 : EReal) < b.1 then a else if (a.1 : EReal) = b.1 ∧ a.2.slt b.2 then a else b := by
  obtain ⟨x, i⟩ := a
  obtain ⟨y, j⟩ := b
  have hlt : FloatOps.cmpf (F := Ideal) (φ := .f32) .olt x y = BitVec.ofBool (decide ((x : EReal) < y)) := rfl
  have hne : FloatOps.cmpf (F := Ideal) (φ := .f32) .une x x = BitVec.ofBool (decide ((x : EReal) ≠ x)) := rfl
  have heq : FloatOps.cmpf (F := Ideal) (φ := .f32) .oeq x y = BitVec.ofBool (decide ((x : EReal) = y)) := rfl
  have hs : IntOp.cmpi .slt i j = BitVec.ofBool (i.slt j) := rfl
  simp only [reducer_argmin_f32_i32, hlt, hne, heq, hs]
  by_cases h1 : (x : EReal) < y
  · have h2 : (x : EReal) ≠ y := ne_of_lt h1
    cases h3 : i.slt j <;> simp [h1, h2, h3, IntOp.ori, IntOp.andi, Scalar.select]
  · by_cases h2 : (x : EReal) = y
    · cases h3 : i.slt j <;> simp [h1, h2, h3, IntOp.ori, IntOp.andi, Scalar.select]
    · simp [h1, h2, IntOp.ori, IntOp.andi, Scalar.select]

/-- The arg-min's step returns one of its two pairs. -/
theorem step_or (a b : Ideal FTy.f32 × BitVec 32) :
    reducer_argmin_f32_i32 (F := Ideal) a b = a ∨ reducer_argmin_f32_i32 (F := Ideal) a b = b := by
  rw [step_eq]
  split_ifs <;> simp

/-- Numbers below 8192 compare as words the way they do as numbers. -/
theorem slt_word (k l : Fin 8192) : (BitVec.ofNat 32 k.val).slt (BitVec.ofNat 32 l.val) = decide (k < l) := by
  have h : ∀ k : Fin 8192, (BitVec.ofNat 32 k.val).toInt = (k.val : ℤ) := by
    intro k
    rw [BitVec.toInt_ofNat']
    have := k.isLt
    simp [Int.bmod]
    omega
  rw [BitVec.slt, h, h]
  exact decide_eq_decide.mpr (Int.ofNat_lt.trans Fin.lt_def.symm)

/-- The pair of the first least distance wins against every other pair, on either side. -/
theorem wins (d : Fin 8192 → ℝ) (k0 k : Fin 8192) (hle : d k0 ≤ d k) (hlt : k < k0 → d k0 < d k) :
    reducer_argmin_f32_i32 (F := Ideal) ((d k : EReal), BitVec.ofNat 32 k.val) ((d k0 : EReal), BitVec.ofNat 32 k0.val)
        = ((d k0 : EReal), BitVec.ofNat 32 k0.val)
    ∧ reducer_argmin_f32_i32 (F := Ideal) ((d k0 : EReal), BitVec.ofNat 32 k0.val) ((d k : EReal), BitVec.ofNat 32 k.val)
        = ((d k0 : EReal), BitVec.ofNat 32 k0.val) := by
  rw [step_eq, step_eq]
  simp only [slt_word, EReal.coe_lt_coe_iff, EReal.coe_eq_coe_iff, decide_eq_true_eq]
  rcases lt_trichotomy k k0 with h | h | h
  · have := hlt h
    have h' : ¬ d k < d k0 := not_lt.mpr hle
    simp [this, h', this.ne']
  · subst h
    simp
  · have h' : ¬ d k < d k0 := not_lt.mpr hle
    have h2 : ¬ k < k0 := not_lt.mpr h.le
    rcases hle.lt_or_eq with e | e
    · simp [h', h2, e]
    · simp [h', h2, e, h]

/-- An arg-reduction whose step returns one of its pairs ends, at `j`, at the pair of a position of `j`'s that wins
    against the initial pair and against every position's pair. -/
theorem argReduce_winner {s t u : Shape} {axes : List (Fin s.rank)} {β : Type} (f : Ideal FTy.f32 × β → Ideal FTy.f32 × β → Ideal FTy.f32 × β)
    (hf : ∀ a b, f a b = a ∨ f a b = b) (x : FVec Ideal s .f32) (y : s.Idx → β) (ix : u.Idx → Ideal FTy.f32) (iy : u.Idx → β)
    (h : s.ReducesTo axes t) (hu : 0 < u.numel) (j : t.Idx) (p : Ideal FTy.f32 × β) (i0 : s.Idx) (h0 : h.drop i0 = j) (hp : (x i0, y i0) = p)
    (hi : ∀ i, h.drop i = j → f (x i, y i) p = p ∧ f p (x i, y i) = p)
    (ha : f (ix (Shape.Idx.first hu), iy (Shape.Idx.first hu)) p = p ∧ f p (ix (Shape.Idx.first hu), iy (Shape.Idx.first hu)) = p) :
    Host.argReduce f x y ix iy h hu j = p := by
  rw [Ideal.argReduce_eq_reduce2, Host.reduce2_eq_foldl_fiber]
  refine Cert.Select.foldl_winner f hf p _ ?_ ?_ _ ha
  · intro q hq
    rw [Host.argReduceFiber, List.mem_map] at hq
    obtain ⟨n, hn, rfl⟩ := hq
    exact hi _ (of_decide_eq_true (List.mem_filter.mp hn).2)
  · rw [Host.argReduceFiber, List.mem_map]
    refine ⟨s.rowMajor i0, ?_, ?_⟩
    · rw [List.mem_filter]
      refine ⟨List.mem_finRange _, ?_⟩
      rw [Equiv.symm_apply_apply]
      exact decide_eq_true h0
    · rw [Equiv.symm_apply_apply]
      exact hp

/-- The arg-min's initial pair loses to a pair of a real distance. -/
theorem init_loses (r : ℝ) (w : BitVec 32) :
    reducer_argmin_f32_i32 (F := Ideal) ((⊤ : EReal), 0#32) ((r : EReal), w) = ((r : EReal), w)
    ∧ reducer_argmin_f32_i32 (F := Ideal) ((r : EReal), w) ((⊤ : EReal), 0#32) = ((r : EReal), w) := by
  rw [step_eq, step_eq]
  simp [EReal.coe_lt_top, EReal.coe_ne_top]

/-- A position's pair is its real distance and its number. -/
theorem pair_at (D : FVec Ideal S8192x16384 .f32) (j : Fin 16384) (d : Fin 8192 → ℝ) (hD : ∀ k, D (ix2 k j) = ((d k : ℝ) : EReal)) (k : Fin 8192) :
    (D (ix2 k j), iotaInDim S8192x16384 32 0 (ix2 k j)) = ((((d k : ℝ) : EReal) : Ideal FTy.f32), BitVec.ofNat 32 k.val) := Prod.ext (hD k) rfl

/-- The arg-min's initial pair. -/
theorem init_at (hu : 0 < S_.numel) : ((constant (F := Ideal) S_ .f32 0x7F800000#32) (Shape.Idx.first hu), (constantI S_ 32 0#32) (Shape.Idx.first hu))
    = (((⊤ : EReal) : Ideal FTy.f32), 0#32) := Prod.ext Cert.Select.inf_top rfl

/-- The pair the arg-min ends at, where every distance of a row is real. -/
theorem arg_pair (D : FVec Ideal S8192x16384 .f32) (j : Fin 16384) (d : Fin 8192 → ℝ) (hD : ∀ k, D (ix2 k j) = ((d k : ℝ) : EReal))
    (k0 : Fin 8192) (hle : ∀ k, d k0 ≤ d k) (hlt : ∀ k, k < k0 → d k0 < d k) (h : S8192x16384.ReducesTo [0] S16384) (hu : 0 < S_.numel) :
    Host.argReduce (reducer_argmin_f32_i32 (F := Ideal)) D (iotaInDim S8192x16384 32 0) (constant S_ .f32 0x7F800000#32) (constantI S_ 32 0#32) h hu (ix1 j)
      = (((d k0 : ℝ) : EReal), BitVec.ofNat 32 k0.val) := by
  apply argReduce_winner _ step_or D _ _ _ h hu (ix1 j) _ (ix2 k0 j)
  · exact (Shape.ReducesTo.fiber_r2_a0 h (ix1 j) _).mpr ⟨k0, rfl⟩
  · exact pair_at D j d hD k0
  · intro i hi
    obtain ⟨k, hk⟩ := (Shape.ReducesTo.fiber_r2_a0 h (ix1 j) i).mp hi
    have hk' : ix2 k j = i := hk
    subst hk'
    rw [pair_at D j d hD k]
    exact wins d k0 k (hle k) (hlt k)
  · rw [init_at hu]
    exact init_loses (d k0) _

/-- `ARG`, opened. -/
theorem arg_def (D : FVec Ideal S8192x16384 .f32) : ARG D = fun j =>
    (Host.argReduce (reducer_argmin_f32_i32 (F := Ideal)) D (iotaInDim S8192x16384 32 0) (constant S_ .f32 0x7F800000#32) (constantI S_ 32 0#32)
      Gen.reducesTo_S8192x16384_S16384_d0 Gen.h_S_ j).2 := by
  delta ARG
  rfl

/-- Where every distance of a row is real, the arg-min is the number of the first least one. -/
theorem arg_eq (D : FVec Ideal S8192x16384 .f32) (j : Fin 16384) (d : Fin 8192 → ℝ) (hD : ∀ k, D (ix2 k j) = ((d k : ℝ) : EReal))
    (k0 : Fin 8192) (hle : ∀ k, d k0 ≤ d k) (hlt : ∀ k, k < k0 → d k0 < d k) :
    ARG D (ix1 j) = BitVec.ofNat 32 k0.val := by
  rw [arg_def]
  exact congrArg Prod.snd (arg_pair D j d hD k0 hle hlt Gen.reducesTo_S8192x16384_S16384_d0 Gen.h_S_)

end Cert.ReferenceIdeal.Value

end
-- ==== Proof.Norm.lean ====
/- Real-number facts: a normalised row is always real, and the two spellings of the squared distance agree on real rows. -/
module

public import proofs.«01_k».proof.Proof.Pay

@[expose] public section

noncomputable section

namespace Cert.KernelIdeal.Value

open Idealize.ShloMosaic
open Cert.Select

/-- The small constant lengths are cut off at is a positive real number. -/
theorem eps_real : ∃ e : ℝ, 0 < e ∧ Ideal.ofBits .f32 0x2B8CBCCC#32 = (e : EReal) := by
  refine ⟨(9223372 : ℝ) * 2 ^ (-63 : ℤ), by positivity, ?_⟩
  simp [Ideal.ofBits, Ideal.ieee]

/-- The kernel's factor is minus two. -/
theorem neg_two : Ideal.ofBits .f32 0xC0000000#32 = ((-2 : ℝ) : EReal) := by
  simp [Ideal.ofBits, Ideal.ieee]
  rw [← EReal.coe_mul]
  norm_num

/-- The reference's factor is two. -/
theorem pos_two : Ideal.ofBits .f32 0x40000000#32 = ((2 : ℝ) : EReal) := by
  simp [Ideal.ofBits, Ideal.ieee]
  rw [← EReal.coe_mul]
  norm_num

/-- A square of an extended real is not negative. -/
theorem sq_nonneg' (x : EReal) : 0 ≤ x * x := by
  induction x using EReal.rec with
  | bot => simp
  | top => simp
  | coe r => exact_mod_cast mul_self_nonneg r

/-- An extended real whose square is not infinite is real. -/
theorem real_of_sq (x : EReal) (h : x * x ≠ ⊤) : ∃ r : ℝ, x = (r : EReal) := by
  induction x using EReal.rec with
  | bot => simp at h
  | top => simp at h
  | coe r => exact ⟨r, rfl⟩

/-- A finite sum of real numbers, taken among the extended reals. -/
theorem sum_real {n : ℕ} (f : Fin n → ℝ) : (∑ l, (f l : EReal)) = ((∑ l, f l : ℝ) : EReal) := by
  induction (Finset.univ : Finset (Fin n)) using Finset.induction_on with
  | empty => simp
  | insert a s ha ih => rw [Finset.sum_insert ha, Finset.sum_insert ha, ih, EReal.coe_add]

/-- A normalised row is real, whatever the row. -/
theorem nrm_real (v : Fin 32 → EReal) : ∃ f : Fin 32 → ℝ, ∀ l, nrm v l = (f l : EReal) := by
  obtain ⟨e, he, heps⟩ := eps_real
  unfold nrm
  rw [heps]
  by_cases hS : (∑ j, v j * v j) = ⊤
  · refine ⟨fun _ => 0, fun l => ?_⟩
    rw [hS]
    show Ideal.div (v l) (max ⊤ (e : EReal)) = _
    rw [max_eq_left le_top]
    simp [Ideal.div]
  · have hr : ∀ j, ∃ r : ℝ, v j = (r : EReal) := by
      intro j
      refine real_of_sq _ (fun h => hS ?_)
      have := Finset.single_le_sum (f := fun j => v j * v j) (fun i _ => sq_nonneg' (v i)) (Finset.mem_univ j)
      rw [h] at this
      exact top_le_iff.mp this
    choose r hr using hr
    refine ⟨fun l => r l * (max (Real.sqrt (∑ j, r j * r j)) e)⁻¹, fun l => ?_⟩
    have hs : (∑ j, v j * v j) = ((∑ j, r j * r j : ℝ) : EReal) := by
      rw [← sum_real]
      exact Finset.sum_congr rfl fun j _ => by rw [hr j, EReal.coe_mul]
    have h0 : 0 ≤ ∑ j, r j * r j := Finset.sum_nonneg fun j _ => mul_self_nonneg _
    have hm : max (((Real.sqrt (∑ j, r j * r j) : ℝ) : EReal)) (e : EReal) = ((max (Real.sqrt (∑ j, r j * r j)) e : ℝ) : EReal) :=
      (EReal.coe_strictMono.monotone.map_max).symm
    have hne : ((max (Real.sqrt (∑ j, r j * r j)) e : ℝ) : EReal) ≠ 0 := by
      have : 0 < max (Real.sqrt (∑ j, r j * r j)) e := lt_max_of_lt_right he
      exact_mod_cast this.ne'
    rw [hs, sqrt_coe' _ h0, hm, hr l]
    unfold Ideal.div
    rw [if_neg hne, EReal.coe_mul, EReal.coe_inv]

/-- The squared distance of two real rows. -/
def sqd (p q : Fin 32 → ℝ) : ℝ := ((∑ l, q l * q l) + ∑ l, p l * p l) - 2 * ∑ l, q l * p l

/-- The kernel's spelling of it, its factor minus two inside the product. -/
theorem sqd_kernel (p q : Fin 32 → EReal) (f g : Fin 32 → ℝ) (hp : ∀ l, p l = (f l : EReal)) (hq : ∀ l, q l = (g l : EReal)) :
    ((∑ l, q l * q l) + ∑ l, p l * p l) + ∑ l, (p l * Ideal.ofBits .f32 0xC0000000#32) * q l = (sqd f g : EReal) := by
  obtain rfl : p = fun l => (f l : EReal) := funext hp
  obtain rfl : q = fun l => (g l : EReal) := funext hq
  rw [neg_two]
  simp only [← EReal.coe_mul, sum_real, ← EReal.coe_add]
  congr 1
  unfold sqd
  rw [sub_eq_add_neg, Finset.mul_sum, ← Finset.sum_neg_distrib]
  congr 1
  exact Finset.sum_congr rfl fun l _ => by ring

/-- The reference's spelling of it. -/
theorem sqd_reference (p q : Fin 32 → EReal) (f g : Fin 32 → ℝ) (hp : ∀ l, p l = (f l : EReal)) (hq : ∀ l, q l = (g l : EReal)) :
    ((∑ l, q l * q l) + ∑ l, p l * p l) - Ideal.ofBits .f32 0x40000000#32 * ∑ l, q l * p l = (sqd f g : EReal) := by
  obtain rfl : p = fun l => (f l : EReal) := funext hp
  obtain rfl : q = fun l => (g l : EReal) := funext hq
  rw [pos_two]
  simp only [← EReal.coe_mul, sum_real, ← EReal.coe_add, ← EReal.coe_sub]
  rfl

/-- The cut-off root of a real number is real. -/
theorem cut_root (r : ℝ) : Ideal.sqrt (max (r : EReal) (Ideal.ofBits .f32 0x00000000#32)) = ((Real.sqrt (max r 0) : ℝ) : EReal) := by
  have h : max (r : EReal) (0 : EReal) = ((max r 0 : ℝ) : EReal) := (EReal.coe_strictMono.monotone.map_max).symm
  rw [zero_zero, h, sqrt_coe' _ (le_max_right _ _)]

end Cert.KernelIdeal.Value

end
-- ==== Proof.Equation.lean ====
/- The kernel's answer is the reference's: both are, at every row, the number of the first code at the least distance. -/
module

public import proofs.«01_k».proof.Proof.Tail
public import proofs.«01_k».proof.Proof.Argmin
public import proofs.«01_k».proof.Proof.Norm

@[expose] public section

set_option maxRecDepth 16384

noncomputable section

namespace Cert.Equation

open Idealize.ShloMosaic Idealize.ShloMosaic.TcCoe Idealize.SL.Sem
open Cert.Select
open Cert.KernelIdeal.Value (nrm nrm_real ROW OUT ANS sqd sqd_kernel sqd_reference cut_root code_at codesq_at iota_at)
open Cert.ReferenceIdeal.Value (REF ARG DIST NX NC PROJ)
open Cert.KernelIdeal (S16x1024x512 S512x32 S8192x32 S32x8192 S1x8192)
open Cert.KernelIdeal.Gen (k0_pay3 k0_pay4)

/-- The kernel's choice at a row, over real normalised rows `f` (the input's) and `g` (the codes'). -/
theorem row_word (x : Fin 512 → EReal) (w : FVec Ideal S512x32 .f32) (c : FVec Ideal S32x8192 .f32) (o : FVec Ideal S1x8192 .f32)
    (ho : ∀ k : Fin 8192, o (ix2 0 k) = ((k.val : ℝ) : EReal))
    (f : Fin 32 → ℝ) (hf : ∀ l, nrm (fun l => ∑ j, x j * w (ix2 j l)) l = (f l : EReal))
    (g : Fin 8192 → Fin 32 → ℝ) (hg : ∀ k l, nrm (fun l => c (ix2 l k)) l = (g k l : EReal))
    (k0 : Fin 8192) (hle : ∀ k, max (sqd f (g k0)) 0 ≤ max (sqd f (g k)) 0) (hlt : ∀ k, k < k0 → max (sqd f (g k0)) 0 < max (sqd f (g k)) 0) :
    ROW x w (k0_pay3 (F := Ideal) c) (k0_pay4 (F := Ideal) c) o = BitVec.ofNat 32 k0.val := by
  have hd : ∀ k : Fin 8192, ((k0_pay4 (F := Ideal) c (ix2 0 k) : EReal)
        + ∑ l, nrm (fun l => ∑ j, x j * w (ix2 j l)) l * nrm (fun l => ∑ j, x j * w (ix2 j l)) l)
      + ∑ l, (nrm (fun l => ∑ j, x j * w (ix2 j l)) l * Ideal.ofBits .f32 0xC0000000#32) * k0_pay3 (F := Ideal) c (ix2 l k)
      = ((sqd f (g k) : ℝ) : EReal) := by
    intro k
    rw [codesq_at]
    simp only [code_at]
    exact sqd_kernel _ _ f (g k) hf (hg k)
  unfold ROW
  rw [funext hd, funext ho]
  exact rowsel_eq (fun k => sqd f (g k)) k0 hle hlt

/-- The reference's choice at a row, over the same real rows. -/
theorem ref_word (p : FVec Ideal Cert.ReferenceIdeal.S16384x32 .f32) (q : FVec Ideal Cert.ReferenceIdeal.S8192x32 .f32) (j : Fin 16384)
    (f : Fin 32 → ℝ) (hf : ∀ l, p (ix2 j l) = (f l : EReal))
    (g : Fin 8192 → Fin 32 → ℝ) (hg : ∀ k l, q (ix2 k l) = (g k l : EReal))
    (k0 : Fin 8192) (hle : ∀ k, max (sqd f (g k0)) 0 ≤ max (sqd f (g k)) 0) (hlt : ∀ k, k < k0 → max (sqd f (g k0)) 0 < max (sqd f (g k)) 0) :
    ARG (DIST p q) (ix1 j) = BitVec.ofNat 32 k0.val := by
  refine Cert.ReferenceIdeal.Value.arg_eq _ j (fun k => Real.sqrt (max (sqd f (g k)) 0)) ?_ k0 ?_ ?_
  · intro k
    rw [Cert.ReferenceIdeal.Value.dist_at]
    refine (congrArg (fun a => Ideal.sqrt (max a (Ideal.ofBits .f32 0x00000000#32)))
      (sqd_reference (fun l => p (ix2 j l)) (fun l => q (ix2 k l)) f (g k) hf (hg k))).trans ?_
    exact cut_root _
  · exact fun k => Real.sqrt_le_sqrt (hle k)
  · exact fun k hk => Real.sqrt_lt_sqrt (le_max_right _ _) (hlt k hk)

/-- The kernel's two last casts only rename the entries. -/
theorem casts_at (v : IVec Cert.KernelIdeal.S16x1x1024 32) (a : Fin 16) (b : Fin 1024) :
    (shapeCast Cert.KernelIdeal.S16x1024 (shapeCast Cert.KernelIdeal.S16384 v Cert.KernelIdeal.Gen.shapeCasts_S16x1x1024_S16384)
      Cert.KernelIdeal.Gen.shapeCasts_S16384_S16x1024) (ix2 a b) = v (ix3 a 0 b) := by
  pointwise

/-- A joined row of the input. -/
theorem flat_at (X : FVec Ideal S16x1024x512 .f32) (a : Fin 16) (b : Fin 1024) (j : Fin 512) :
    (shapeCast Cert.KernelIdeal.S16384x512 X Cert.KernelIdeal.Gen.shapeCasts_S16x1024x512_S16384x512) (ix2 ⟨a.val * 1024 + b.val, by omega⟩ j) = X (ix3 a b j) := by
  pointwise

/-- The codebook with its axes exchanged. -/
theorem swap_at (C : FVec Ideal S8192x32 .f32) (k : Fin 8192) (l : Fin 32) :
    (transpose S32x8192 [1, 0] C Cert.KernelIdeal.Gen.transposes_S8192x32_S32x8192_1_0) (ix2 l k) = C (ix2 k l) := by
  pointwise

/-- The kernel's answer at a row is the choice over that row. -/
theorem ans_at (X : FVec Ideal S16x1024x512 .f32) (R : FVec Ideal S512x32 .f32) (C : FVec Ideal S8192x32 .f32) (a : Fin 16) (b : Fin 1024) :
    ANS X R C (ix2 a b) = ROW (fun j => X (ix3 a b j)) R
      (k0_pay3 (F := Ideal) (transpose S32x8192 [1, 0] C Cert.KernelIdeal.Gen.transposes_S8192x32_S32x8192_1_0))
      (k0_pay4 (F := Ideal) (transpose S32x8192 [1, 0] C Cert.KernelIdeal.Gen.transposes_S8192x32_S32x8192_1_0))
      (shapeCast S1x8192 (sitofp (F := Ideal) .f32 (iotaInDim Cert.KernelIdeal.S8192 32 0)) Cert.KernelIdeal.Gen.shapeCasts_S8192_S1x8192) := by
  unfold ANS
  rw [casts_at]
  unfold OUT
  exact congrArg (fun x => ROW x R _ _ _) (funext fun j => flat_at X a b j)

/-- The reference's last cast only renames the entries. -/
theorem cast_at (v : IVec Cert.ReferenceIdeal.S16384 32) (a : Fin 16) (b : Fin 1024) :
    (shapeCast Cert.ReferenceIdeal.S16x1024 v Cert.ReferenceIdeal.Gen.shapeCasts_S16384_S16x1024) (ix2 a b) = v (ix1 ⟨a.val * 1024 + b.val, by omega⟩) := by
  pointwise

/-- The reference's answer at a row is the choice over the joined rows. -/
theorem ref_at (X : FVec Ideal S16x1024x512 .f32) (R : FVec Ideal S512x32 .f32) (C : FVec Ideal S8192x32 .f32) (a : Fin 16) (b : Fin 1024) :
    REF X R C (ix2 a b) = ARG (DIST (NX (PROJ X R)) (NC C)) (ix1 ⟨a.val * 1024 + b.val, by omega⟩) := by
  unfold REF
  exact cast_at _ a b

/-- A projected row of the reference, by the two coordinates it came from. -/
theorem proj_row (X : FVec Ideal S16x1024x512 .f32) (R : FVec Ideal S512x32 .f32) (a : Fin 16) (b : Fin 1024) (l : Fin 32) :
    PROJ X R (ix2 ⟨a.val * 1024 + b.val, by omega⟩ l) = ∑ k : Fin 512, (X (ix3 a b k) : EReal) * R (ix2 k l) := by
  rw [Cert.ReferenceIdeal.Value.proj_at]
  have h1 : (⟨(a.val * 1024 + b.val) / 1024, by omega⟩ : Fin 16) = a := Fin.ext (by show (a.val * 1024 + b.val) / 1024 = a.val; omega)
  have h2 : (⟨(a.val * 1024 + b.val) % 1024, by omega⟩ : Fin 1024) = b := Fin.ext (by show (a.val * 1024 + b.val) % 1024 = b.val; omega)
  exact Finset.sum_congr rfl fun k _ => congrArg (fun e : EReal => e * R (ix2 k l)) (congrArg₂ (fun u v => X (ix3 u v k)) h1 h2)

/-- The two answers are equal, entry by entry. -/
theorem answer_at (X : FVec Ideal S16x1024x512 .f32) (R : FVec Ideal S512x32 .f32) (C : FVec Ideal S8192x32 .f32) (a : Fin 16) (b : Fin 1024) :
    ANS X R C (ix2 a b) = REF X R C (ix2 a b) := by
  obtain ⟨f, hf⟩ := nrm_real (fun l => ∑ j : Fin 512, (X (ix3 a b j) : EReal) * R (ix2 j l))
  have hc : ∀ k : Fin 8192, ∃ g : Fin 32 → ℝ, ∀ l, nrm (fun l => C (ix2 k l)) l = (g l : EReal) := fun k => nrm_real _
  choose g hg using hc
  obtain ⟨k0, hle, hlt⟩ := exists_first (fun k => max (sqd f (g k)) 0)
  rw [ans_at, ref_at]
  refine (row_word _ R _ _ iota_at f hf g ?_ k0 hle hlt).trans (ref_word _ _ _ f ?_ g ?_ k0 hle hlt).symm
  · intro k l
    rw [← hg k l]
    exact congrArg (fun v => nrm v l) (funext fun l => swap_at C k l)
  · intro l
    rw [Cert.ReferenceIdeal.Value.nx_at, ← hf l]
    exact congrArg (fun v => nrm v l) (funext fun l => proj_row X R a b l)
  · intro k l
    rw [Cert.ReferenceIdeal.Value.nc_at]
    exact hg k l

/-- The two answers are equal. -/
theorem answer (X : FVec Ideal S16x1024x512 .f32) (R : FVec Ideal S512x32 .f32) (C : FVec Ideal S8192x32 .f32) : ANS X R C = REF X R C := by
  funext i
  have e : i = ix2 (i 0) (i 1) := by
    funext x
    match x with
    | ⟨0, _⟩ => rfl
    | ⟨1, _⟩ => rfl
  rw [e]
  exact answer_at X R C (i 0) (i 1)

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Claim
public import proofs.«01_k».proof.Proof.RefRun
public import proofs.«01_k».proof.Proof.Equation

@[expose] public section

set_option maxRecDepth 16384

noncomputable section

namespace Cert.Proof

open Idealize.ShloMosaic Idealize.SL.Sem Cert.Kernel

/-- The kernel and the reference return the same array from equal arguments. -/
theorem algebraic : Cert.algebraic_KernelIdeal_ReferenceIdeal (hKernelIdeal := Cert.KernelIdeal.Gen.facts) (hReferenceIdeal := Cert.ReferenceIdeal.Gen.facts) := by
  intro m g m' g' _ hagree
  refine ⟨_, Cert.KernelIdeal.Value.run m g, θ_run_mono (Cert.ReferenceIdeal.Value.run m' g') fun r h c => ⟨(h c).1.trans ?_, (h c).2⟩⟩
  obtain ⟨h0, h1, h2⟩ := hagree c
  rw [h0, h1, h2]
  exact (Cert.Equation.answer _ _ _).symm

/-- The claims: the three programs' frames, the rewritten kernel's preservation, and the equality of the two results. -/
theorem claim : Cert.Claim := ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m g _ => Cert.ReferenceIdeal.Value.frame m g, trivial, algebraic⟩

end Cert.Proof

end
